-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv12" .f32 0x3DAAAAAB#32 ((1 / 12 : ℝ) : EReal)
  ∧ IdealRules.named_const.Statement Cert.KernelIdeal.κ "inv50" .f32 0x3CA3D70A#32 ((1 / 50 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x50x50 : Shape := ⟨3, ![4, 50, 50]⟩
abbrev S4 : Shape := ⟨1, ![4]⟩
abbrev S10000x3 : Shape := ⟨2, ![10000, 3]⟩
abbrev S4x2500x3 : Shape := ⟨3, ![4, 2500, 3]⟩
abbrev S4x2500 : Shape := ⟨2, ![4, 2500]⟩
abbrev S4x2500x1 : Shape := ⟨3, ![4, 2500, 1]⟩
abbrev S1x2500x3 : Shape := ⟨3, ![1, 2500, 3]⟩
abbrev S2500x3 : Shape := ⟨2, ![2500, 3]⟩
abbrev S_ : Shape := ⟨0, ![]⟩
abbrev S4x2500x2 : Shape := ⟨3, ![4, 2500, 2]⟩

class Facts : Prop where
  shapeCasts_S10000x3_S4x2500x3 : S10000x3.ShapeCasts S4x2500x3
  slices_S4x2500x3_S4x2500x1_0_0_0 : S4x2500x3.Slices ![0, 0, 0] S4x2500x1
  shapeCasts_S4x2500x1_S4x2500 : S4x2500x1.ShapeCasts S4x2500
  slices_S4x2500x3_S1x2500x3_0_0_0 : S4x2500x3.Slices ![0, 0, 0] S1x2500x3
  shapeCasts_S1x2500x3_S2500x3 : S1x2500x3.ShapeCasts S2500x3
  bcast_S2500x3_S4x2500x3_1_2 : S2500x3.BroadcastsInDim S4x2500x3 (![1, 2] : Fin 2 → Fin S4x2500x3.rank)
  bcast_S_S4x50x50 : S_.BroadcastsInDim S4x50x50 (![] : Fin 0 → Fin S4x50x50.rank)
  reducesTo_S4x50x50_S_d0_1_2 : S4x50x50.ReducesTo [0, 1, 2] S_
  h_S_ : 0 < S_.numel
  reducesTo_S4x2500_S_d0_1 : S4x2500.ReducesTo [0, 1] S_
  slices_S4x2500x3_S4x2500x2_0_0_1 : S4x2500x3.Slices ![0, 0, 1] S4x2500x2
  reducesTo_S4x2500x2_S_d0_1_2 : S4x2500x2.ReducesTo [0, 1, 2] S_

variable [Facts]

def fn {F : FTy → Type} [FloatOps F] (main_arg0 : FVec F S4x50x50 .f32) (main_arg1 : IVec S4 32) (main_arg2 : FVec F S10000x3 .f32) : IVec S_ 1 :=
  let main_v0 : FVec F S4x2500x3 .f32 := shapeCast S4x2500x3 main_arg2 shapeCasts_S10000x3_S4x2500x3
  let main_v1 : IVec S4x2500 32 := iotaInDim S4x2500 32 0
  let main_v2 : FVec F S4x2500 .f32 := sitofp .f32 main_v1
  let main_v3 : FVec F S4x2500x1 .f32 := (extractStridedSlice S4x2500x1 ![0, 0, 0] · slices_S4x2500x3_S4x2500x1_0_0_0) main_v0
  let main_v4 : FVec F S4x2500 .f32 := shapeCast S4x2500 main_v3 shapeCasts_S4x2500x1_S4x2500
  let main_v5 : IVec S4x2500 1 := cmpf .oeq main_v4 main_v2
  let main_v6 : FVec F S1x2500x3 .f32 := (extractStridedSlice S1x2500x3 ![0, 0, 0] · slices_S4x2500x3_S1x2500x3_0_0_0) main_v0
  let main_v7 : FVec F S2500x3 .f32 := shapeCast S2500x3 main_v6 shapeCasts_S1x2500x3_S2500x3
  let main_v8 : FVec F S4x2500x3 .f32 := broadcastInDim S4x2500x3 ![1, 2] bcast_S2500x3_S4x2500x3_1_2 main_v7
  let main_v9 : IVec S4x2500x3 1 := cmpf .oeq main_v0 main_v8
  let main_v10 : FVec F S4x50x50 .f32 := Host.absf main_arg0
  let main_cst : FVec F S_ .f32 := constant S_ .f32 0x7F800000#32
  let main_v11 : FVec F S4x50x50 .f32 := broadcastInDim S4x50x50 ![] bcast_S_S4x50x50 main_cst
  let main_v12 : IVec S4x50x50 1 := cmpf .olt main_v10 main_v11
  let main_c : IVec S_ 1 := constantI S_ 1 1#1
  let main_v13 : IVec S_ 1 := (fun x v => Host.reduce IntOp.andi x v reducesTo_S4x50x50_S_d0_1_2 h_S_) main_v12 main_c
  let main_c_0 : IVec S_ 1 := constantI S_ 1 1#1
  let main_v14 : IVec S_ 1 := (fun x v => Host.reduce IntOp.andi x v reducesTo_S4x2500_S_d0_1 h_S_) main_v5 main_c_0
  let main_v15 : IVec S_ 1 := andi main_v13 main_v14
  let main_v16 : IVec S4x2500x2 1 := (extractStridedSlice S4x2500x2 ![0, 0, 1] · slices_S4x2500x3_S4x2500x2_0_0_1) main_v9
  let main_c_1 : IVec S_ 1 := constantI S_ 1 1#1
  let main_v17 : IVec S_ 1 := (fun x v => Host.reduce IntOp.andi x v reducesTo_S4x2500x2_S_d0_1_2 h_S_) main_v16 main_c_1
  let main_v18 : IVec S_ 1 := andi main_v15 main_v17
  main_v18
-- ==== Kernel.lean ====
abbrev S4x50x50 : Shape := ⟨3, ![4, 50, 50]⟩
abbrev S4 : Shape := ⟨1, ![4]⟩
abbrev S10000x3 : Shape := ⟨2, ![10000, 3]⟩
abbrev S2500x1 : Shape := ⟨2, ![2500, 1]⟩
abbrev S2500 : Shape := ⟨1, ![2500]⟩
abbrev S50x50 : Shape := ⟨2, ![50, 50]⟩
abbrev S1x2500 : Shape := ⟨2, ![1, 2500]⟩
abbrev S4x50x28x50x50 : Shape := ⟨5, ![4, 50, 28, 50, 50]⟩
abbrev S1x50x50 : Shape := ⟨3, ![1, 50, 50]⟩
abbrev S1x50x7x50x50 : Shape := ⟨5, ![1, 50, 7, 50, 50]⟩
abbrev S28x53x2500 : Shape := ⟨3, ![28, 53, 2500]⟩
abbrev S50x53 : Shape := ⟨2, ![50, 53]⟩
abbrev S53x2500 : Shape := ⟨2, ![53, 2500]⟩
abbrev S1x53x2500 : Shape := ⟨3, ![1, 53, 2500]⟩
abbrev S50 : Shape := ⟨1, ![50]⟩
abbrev S1x50 : Shape := ⟨2, ![1, 50]⟩
abbrev S50x1 : Shape := ⟨2, ![50, 1]⟩
abbrev S50x2500 : Shape := ⟨2, ![50, 2500]⟩
abbrev S50x50x50 : Shape := ⟨3, ![50, 50, 50]⟩
abbrev S1x50x1x50x50 : Shape := ⟨5, ![1, 50, 1, 50, 50]⟩
abbrev S4x1400x50x50 : Shape := ⟨4, ![4, 1400, 50, 50]⟩

abbrev nBuf : Space → Nat
  | .hbm => 15
  | .vmem => 8
  | .smem => 0
  | _ => 0

abbrev bufTy : (tb : Table) → Fin (tcTables nBuf tb) → BufTy
  | .hbm, ⟨0, _⟩ => ⟨S4x50x50, .f32⟩
  | .hbm, ⟨1, _⟩ => ⟨S4, .i32⟩
  | .hbm, ⟨2, _⟩ => ⟨S10000x3, .f32⟩
  | .hbm, ⟨3, _⟩ => ⟨S2500x1, .f32⟩
  | .hbm, ⟨4, _⟩ => ⟨S2500, .f32⟩
  | .hbm, ⟨5, _⟩ => ⟨S50x50, .f32⟩
  | .hbm, ⟨6, _⟩ => ⟨S50x50, .f32⟩
  | .hbm, ⟨7, _⟩ => ⟨S1x2500, .f32⟩
  | .hbm, ⟨8, _⟩ => ⟨S2500x1, .f32⟩
  | .hbm, ⟨9, _⟩ => ⟨S2500, .f32⟩
  | .hbm, ⟨10, _⟩ => ⟨S50x50, .f32⟩
  | .hbm, ⟨11, _⟩ => ⟨S50x50, .f32⟩
  | .hbm, ⟨12, _⟩ => ⟨S1x2500, .f32⟩
  | .hbm, ⟨13, _⟩ => ⟨S4x50x28x50x50, .f32⟩
  | .hbm, ⟨14, _⟩ => ⟨S4x1400x50x50, .f32⟩
  | .local _ .vmem, ⟨0, _⟩ => ⟨S1x50x50, .f32⟩
  | .local _ .vmem, ⟨1, _⟩ => ⟨S1x50x50, .f32⟩
  | .local _ .vmem, ⟨2, _⟩ => ⟨S1x2500, .f32⟩
  | .local _ .vmem, ⟨3, _⟩ => ⟨S1x2500, .f32⟩
  | .local _ .vmem, ⟨4, _⟩ => ⟨S1x50x7x50x50, .f32⟩
  | .local _ .vmem, ⟨5, _⟩ => ⟨S1x50x7x50x50, .f32⟩
  | .local _ .vmem, ⟨6, _⟩ => ⟨S28x53x2500, .f32⟩
  | .local _ .vmem, ⟨7, _⟩ => ⟨S50x53, .f32⟩
  | _, _ => ⟨S4x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_66 : BitVec 32) : Fin 3 → Nat :=
  let arg1 : BitVec 32 := BitVec.ofNat 32 (i 1).val
  let c7_i32_65 : BitVec 32 := 7#32
  let v85 : BitVec 32 := Scalar.muli arg1 c7_i32_65
  let v86 : BitVec 32 := Scalar.addi v85 c0_i32_66
  let v139 : Index := Scalar.indexCast v86
  let c0_83 : Index := 0#32
  let c0_84 : Index := 0#32
  ![v139.toNat, 0, 0]
def k0_off2 (i : grid0.Coords) (c0_i32_4 : BitVec 32) : Fin 3 → Nat :=
  let arg1 : BitVec 32 := BitVec.ofNat 32 (i 1).val
  let c7_i32 : BitVec 32 := 7#32
  let v7 : BitVec 32 := Scalar.muli arg1 c7_i32
  let v8 : BitVec 32 := Scalar.addi v7 c0_i32_4
  let v9 : Index := Scalar.indexCast v8
  let c0_5 : Index := 0#32
  let c0_6 : Index := 0#32
  ![v9.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x50x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x50x7x50x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "inv12" => some ((1 / 12 : ℝ) : EReal)
  | "inv50" => some ((1 / 50 : ℝ) : EReal)
  | _ => none
-- ==== ReferenceIdeal.lean ====
abbrev S4x50x50 : Shape := ⟨3, ![4, 50, 50]⟩
abbrev S4 : Shape := ⟨1, ![4]⟩
abbrev S10000x3 : Shape := ⟨2, ![10000, 3]⟩
abbrev S10000x1 : Shape := ⟨2, ![10000, 1]⟩
abbrev S10000 : Shape := ⟨1, ![10000]⟩
abbrev S_ : Shape := ⟨0, ![]⟩
abbrev S12 : Shape := ⟨1, ![12]⟩
abbrev S1x12 : Shape := ⟨2, ![1, 12]⟩
abbrev S10000x12 : Shape := ⟨2, ![10000, 12]⟩
abbrev S200x50 : Shape := ⟨2, ![200, 50]⟩
abbrev S10000x12x1 : Shape := ⟨3, ![10000, 12, 1]⟩
abbrev S10000x12x50 : Shape := ⟨3, ![10000, 12, 50]⟩
abbrev S10000x50x12 : Shape := ⟨3, ![10000, 50, 12]⟩
abbrev S4x50 : Shape := ⟨2, ![4, 50]⟩
abbrev S4x1x50 : Shape := ⟨3, ![4, 1, 50]⟩
abbrev S4x50x1 : Shape := ⟨3, ![4, 50, 1]⟩
abbrev S4x50x3 : Shape := ⟨3, ![4, 50, 3]⟩
abbrev S4x1x1 : Shape := ⟨3, ![4, 1, 1]⟩
abbrev S600 : Shape := ⟨1, ![600]⟩
abbrev S600x1 : Shape := ⟨2, ![600, 1]⟩
abbrev S600x50 : Shape := ⟨2, ![600, 50]⟩
abbrev S4x50x3x50 : Shape := ⟨4, ![4, 50, 3, 50]⟩
abbrev S16 : Shape := ⟨1, ![16]⟩
abbrev S1x16 : Shape := ⟨2, ![1, 16]⟩
abbrev S10000x16 : Shape := ⟨2, ![10000, 16]⟩
abbrev S4x3x50 : Shape := ⟨3, ![4, 3, 50]⟩
abbrev S12x50 : Shape := ⟨2, ![12, 50]⟩
abbrev S10000x16x1 : Shape := ⟨3, ![10000, 16, 1]⟩
abbrev S10000x16x50 : Shape := ⟨3, ![10000, 16, 50]⟩
abbrev S10000x50x16 : Shape := ⟨3, ![10000, 50, 16]⟩
abbrev S10000x50x28 : Shape := ⟨3, ![10000, 50, 28]⟩
abbrev S4x50x50x1400 : Shape := ⟨4, ![4, 50, 50, 1400]⟩
abbrev S4x1400x50x50 : Shape := ⟨4, ![4, 1400, 50, 50]⟩

abbrev nBuf : Space → Nat
  | .hbm => 249
  | .vmem => 0
  | .smem => 0
  | _ => 0

abbrev hbmTy0_0 (i : Nat) : BufTy := match i % 128 with
  | 0 => ⟨S4x50x50, .f32⟩
  | 1 => ⟨S4, .i32⟩
  | 2 => ⟨S10000x3, .f32⟩
  | 3 => ⟨S10000x1, .f32⟩
  | 4 => ⟨S10000, .f32⟩
  | 5 => ⟨S10000, .i32⟩
  | 6 => ⟨S10000x1, .f32⟩
  | 7 => ⟨S10000, .f32⟩
  | 8 => ⟨S10000x1, .f32⟩
  | 9 => ⟨S10000, .f32⟩
  | 10 => ⟨S10000, .f32⟩
  | 11 => ⟨S_, .f32⟩
  | 12 => ⟨S10000, .f32⟩
  | 13 => ⟨S10000, .f32⟩
  | 14 => ⟨S_, .f32⟩
  | 15 => ⟨S10000, .f32⟩
  | 16 => ⟨S10000, .f32⟩
  | 17 => ⟨S12, .f32⟩
  | 18 => ⟨S_, .f32⟩
  | 19 => ⟨S12, .f32⟩
  | 20 => ⟨S12, .f32⟩
  | 21 => ⟨S10000x1, .f32⟩
  | 22 => ⟨S10000x1, .f32⟩
  | 23 => ⟨S1x12, .f32⟩
  | 24 => ⟨S10000x12, .f32⟩
  | 25 => ⟨S10000x12, .f32⟩
  | 26 => ⟨S10000x12, .f32⟩
  | 27 => ⟨S10000x12, .f32⟩
  | 28 => ⟨S10000x12, .f32⟩
  | 29 => ⟨S_, .f32⟩
  | 30 => ⟨S10000x12, .f32⟩
  | 31 => ⟨S10000x12, .i1⟩
  | 32 => ⟨S_, .f32⟩
  | 33 => ⟨S10000x12, .f32⟩
  | 34 => ⟨S10000x12, .i1⟩
  | 35 => ⟨S10000x12, .i1⟩
  | 36 => ⟨S_, .f32⟩
  | 37 => ⟨S_, .f32⟩
  | 38 => ⟨S_, .f32⟩
  | 39 => ⟨S10000x12, .f32⟩
  | 40 => ⟨S10000x12, .f32⟩
  | 41 => ⟨S_, .f32⟩
  | 42 => ⟨S10000x12, .f32⟩
  | 43 => ⟨S10000x12, .f32⟩
  | 44 => ⟨S10000x12, .f32⟩
  | 45 => ⟨S10000x12, .i32⟩
  | 46 => ⟨S_, .i32⟩
  | 47 => ⟨S10000x12, .i32⟩
  | 48 => ⟨S10000x12, .i32⟩
  | 49 => ⟨S_, .i32⟩
  | 50 => ⟨S10000x12, .i32⟩
  | 51 => ⟨S10000x12, .i32⟩
  | 52 => ⟨S10000x12, .f32⟩
  | 53 => ⟨S10000x12, .f32⟩
  | 54 => ⟨S4x50x50, .f32⟩
  | 55 => ⟨S200x50, .f32⟩
  | 56 => ⟨S10000x1, .i32⟩
  | 57 => ⟨S_, .i32⟩
  | 58 => ⟨S10000x1, .i32⟩
  | 59 => ⟨S10000x1, .i32⟩
  | 60 => ⟨S10000x12, .i32⟩
  | 61 => ⟨S10000x12, .i32⟩
  | 62 => ⟨S_, .i32⟩
  | 63 => ⟨S10000x12, .i32⟩
  | 64 => ⟨S10000x12, .i1⟩
  | 65 => ⟨S_, .i32⟩
  | 66 => ⟨S10000x12, .i32⟩
  | 67 => ⟨S10000x12, .i32⟩
  | 68 => ⟨S10000x12, .i32⟩
  | 69 => ⟨S10000x12x1, .i32⟩
  | 70 => ⟨S10000x12x50, .f32⟩
  | 71 => ⟨S10000x1, .i32⟩
  | 72 => ⟨S_, .i32⟩
  | 73 => ⟨S10000x1, .i32⟩
  | 74 => ⟨S10000x1, .i32⟩
  | 75 => ⟨S10000x12, .i32⟩
  | 76 => ⟨S10000x12, .i32⟩
  | 77 => ⟨S_, .i32⟩
  | 78 => ⟨S10000x12, .i32⟩
  | 79 => ⟨S10000x12, .i1⟩
  | 80 => ⟨S_, .i32⟩
  | 81 => ⟨S10000x12, .i32⟩
  | 82 => ⟨S10000x12, .i32⟩
  | 83 => ⟨S10000x12, .i32⟩
  | 84 => ⟨S10000x12x1, .i32⟩
  | 85 => ⟨S10000x12x50, .f32⟩
  | 86 => ⟨S10000x12x1, .f32⟩
  | 87 => ⟨S_, .f32⟩
  | 88 => ⟨S10000x12x1, .f32⟩
  | 89 => ⟨S10000x12x1, .f32⟩
  | 90 => ⟨S10000x12x50, .f32⟩
  | 91 => ⟨S10000x12x50, .f32⟩
  | 92 => ⟨S10000x12x1, .f32⟩
  | 93 => ⟨S10000x12x50, .f32⟩
  | 94 => ⟨S10000x12x50, .f32⟩
  | 95 => ⟨S10000x12x50, .f32⟩
  | 96 => ⟨S10000x12x1, .i1⟩
  | 97 => ⟨S_, .f32⟩
  | 98 => ⟨S_, .f32⟩
  | 99 => ⟨S10000x12x50, .i1⟩
  | 100 => ⟨S10000x12x50, .f32⟩
  | 101 => ⟨S10000x12x50, .f32⟩
  | 102 => ⟨S10000x50x12, .f32⟩
  | 103 => ⟨S4x50x50, .f32⟩
  | 104 => ⟨S4x50x50, .f32⟩
  | 105 => ⟨S_, .f32⟩
  | 106 => ⟨S4x50x50, .f32⟩
  | 107 => ⟨S4x50x50, .f32⟩
  | 108 => ⟨S4x50x50, .f32⟩
  | 109 => ⟨S4x50x50, .f32⟩
  | 110 => ⟨S_, .f32⟩
  | 111 => ⟨S4x50, .f32⟩
  | 112 => ⟨S4x1x50, .f32⟩
  | 113 => ⟨S4x1x50, .f32⟩
  | 114 => ⟨S4x50x50, .f32⟩
  | 115 => ⟨S4x50x50, .f32⟩
  | 116 => ⟨S4x50x1, .f32⟩
  | 117 => ⟨S4x50x50, .f32⟩
  | 118 => ⟨S4x50x50, .f32⟩
  | 119 => ⟨S4x50x3, .f32⟩
  | 120 => ⟨S4x50x3, .i32⟩
  | 121 => ⟨S4, .i32⟩
  | 122 => ⟨S_, .i32⟩
  | 123 => ⟨S4, .i32⟩
  | 124 => ⟨S4, .i32⟩
  | 125 => ⟨S4x1x1, .i32⟩
  | 126 => ⟨S4x50x3, .i32⟩
  | 127 => ⟨S4x50x3, .i32⟩
  | _ => ⟨S4x50x50, .f32⟩

abbrev hbmTy0_1 (i : Nat) : BufTy := match i % 128 with
  | 0 => ⟨S600, .i32⟩
  | 1 => ⟨S4x50x50, .f32⟩
  | 2 => ⟨S200x50, .f32⟩
  | 3 => ⟨S_, .i32⟩
  | 4 => ⟨S600, .i32⟩
  | 5 => ⟨S600, .i1⟩
  | 6 => ⟨S_, .i32⟩
  | 7 => ⟨S600, .i32⟩
  | 8 => ⟨S600, .i32⟩
  | 9 => ⟨S600, .i32⟩
  | 10 => ⟨S600x1, .i32⟩
  | 11 => ⟨S600x50, .f32⟩
  | 12 => ⟨S4x50x3x50, .f32⟩
  | 13 => ⟨S_, .f32⟩
  | 14 => ⟨S4x50x3, .f32⟩
  | 15 => ⟨S_, .f32⟩
  | 16 => ⟨S4x50x3, .f32⟩
  | 17 => ⟨S4x50x3, .f32⟩
  | 18 => ⟨S10000x1, .f32⟩
  | 19 => ⟨S10000, .f32⟩
  | 20 => ⟨S10000, .i32⟩
  | 21 => ⟨S10000x1, .f32⟩
  | 22 => ⟨S10000, .f32⟩
  | 23 => ⟨S10000x1, .f32⟩
  | 24 => ⟨S10000, .f32⟩
  | 25 => ⟨S10000, .f32⟩
  | 26 => ⟨S_, .f32⟩
  | 27 => ⟨S10000, .f32⟩
  | 28 => ⟨S10000, .f32⟩
  | 29 => ⟨S_, .f32⟩
  | 30 => ⟨S10000, .f32⟩
  | 31 => ⟨S10000, .f32⟩
  | 32 => ⟨S16, .f32⟩
  | 33 => ⟨S_, .f32⟩
  | 34 => ⟨S16, .f32⟩
  | 35 => ⟨S16, .f32⟩
  | 36 => ⟨S10000x1, .f32⟩
  | 37 => ⟨S10000x1, .f32⟩
  | 38 => ⟨S1x16, .f32⟩
  | 39 => ⟨S10000x16, .f32⟩
  | 40 => ⟨S10000x16, .f32⟩
  | 41 => ⟨S10000x16, .f32⟩
  | 42 => ⟨S10000x16, .f32⟩
  | 43 => ⟨S10000x16, .f32⟩
  | 44 => ⟨S_, .f32⟩
  | 45 => ⟨S10000x16, .f32⟩
  | 46 => ⟨S10000x16, .i1⟩
  | 47 => ⟨S_, .f32⟩
  | 48 => ⟨S10000x16, .f32⟩
  | 49 => ⟨S10000x16, .i1⟩
  | 50 => ⟨S10000x16, .i1⟩
  | 51 => ⟨S_, .f32⟩
  | 52 => ⟨S_, .f32⟩
  | 53 => ⟨S_, .f32⟩
  | 54 => ⟨S10000x16, .f32⟩
  | 55 => ⟨S10000x16, .f32⟩
  | 56 => ⟨S_, .f32⟩
  | 57 => ⟨S10000x16, .f32⟩
  | 58 => ⟨S10000x16, .f32⟩
  | 59 => ⟨S10000x16, .f32⟩
  | 60 => ⟨S10000x16, .i32⟩
  | 61 => ⟨S_, .i32⟩
  | 62 => ⟨S10000x16, .i32⟩
  | 63 => ⟨S10000x16, .i32⟩
  | 64 => ⟨S_, .i32⟩
  | 65 => ⟨S10000x16, .i32⟩
  | 66 => ⟨S10000x16, .i32⟩
  | 67 => ⟨S10000x16, .f32⟩
  | 68 => ⟨S10000x16, .f32⟩
  | 69 => ⟨S4x3x50, .f32⟩
  | 70 => ⟨S12x50, .f32⟩
  | 71 => ⟨S10000x1, .i32⟩
  | 72 => ⟨S_, .i32⟩
  | 73 => ⟨S10000x1, .i32⟩
  | 74 => ⟨S10000x1, .i32⟩
  | 75 => ⟨S10000x16, .i32⟩
  | 76 => ⟨S10000x16, .i32⟩
  | 77 => ⟨S_, .i32⟩
  | 78 => ⟨S10000x16, .i32⟩
  | 79 => ⟨S10000x16, .i1⟩
  | 80 => ⟨S_, .i32⟩
  | 81 => ⟨S10000x16, .i32⟩
  | 82 => ⟨S10000x16, .i32⟩
  | 83 => ⟨S10000x16, .i32⟩
  | 84 => ⟨S10000x16x1, .i32⟩
  | 85 => ⟨S10000x16x50, .f32⟩
  | 86 => ⟨S10000x1, .i32⟩
  | 87 => ⟨S_, .i32⟩
  | 88 => ⟨S10000x1, .i32⟩
  | 89 => ⟨S10000x1, .i32⟩
  | 90 => ⟨S10000x16, .i32⟩
  | 91 => ⟨S10000x16, .i32⟩
  | 92 => ⟨S_, .i32⟩
  | 93 => ⟨S10000x16, .i32⟩
  | 94 => ⟨S10000x16, .i1⟩
  | 95 => ⟨S_, .i32⟩
  | 96 => ⟨S10000x16, .i32⟩
  | 97 => ⟨S10000x16, .i32⟩
  | 98 => ⟨S10000x16, .i32⟩
  | 99 => ⟨S10000x16x1, .i32⟩
  | 100 => ⟨S10000x16x50, .f32⟩
  | 101 => ⟨S10000x16x1, .f32⟩
  | 102 => ⟨S_, .f32⟩
  | 103 => ⟨S10000x16x1, .f32⟩
  | 104 => ⟨S10000x16x1, .f32⟩
  | 105 => ⟨S10000x16x50, .f32⟩
  | 106 => ⟨S10000x16x50, .f32⟩
  | 107 => ⟨S10000x16x1, .f32⟩
  | 108 => ⟨S10000x16x50, .f32⟩
  | 109 => ⟨S10000x16x50, .f32⟩
  | 110 => ⟨S10000x16x50, .f32⟩
  | 111 => ⟨S10000x16x1, .i1⟩
  | 112 => ⟨S_, .f32⟩
  | 113 => ⟨S_, .f32⟩
  | 114 => ⟨S10000x16x50, .i1⟩
  | 115 => ⟨S10000x16x50, .f32⟩
  | 116 => ⟨S10000x16x50, .f32⟩
  | 117 => ⟨S10000x50x16, .f32⟩
  | 118 => ⟨S10000x50x28, .f32⟩
  | 119 => ⟨S4x50x50x1400, .f32⟩
  | 120 => ⟨S4x1400x50x50, .f32⟩
  | _ => ⟨S4x50x50, .f32⟩

abbrev hbmTy (i : Nat) : BufTy := match i / 128 with
  | 0 => hbmTy0_0 i
  | 1 => hbmTy0_1 i
  | _ => ⟨S4x50x50, .f32⟩

abbrev bufTy : (tb : Table) → Fin (tcTables nBuf tb) → BufTy
  | .hbm, ⟨i, _⟩ => hbmTy i
  | _, _ => ⟨S4x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_values : Ref sig .tc := ⟨.hbm, 119, rfl⟩
abbrev main_indices : Ref sig .tc := ⟨.hbm, 120, rfl⟩
abbrev main_v89 : Ref sig .tc := ⟨.hbm, 121, rfl⟩
abbrev main_c_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_18 : Ref sig .tc := ⟨.hbm, 131, rfl⟩
abbrev main_v98 : Ref sig .tc := ⟨.hbm, 132, rfl⟩
abbrev main_v99 : Ref sig .tc := ⟨.hbm, 133, rfl⟩
abbrev main_c_19 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_20 : Ref sig .tc := ⟨.hbm, 141, rfl⟩
abbrev main_v106 : Ref sig .tc := ⟨.hbm, 142, rfl⟩
abbrev main_cst_21 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩
abbrev main_v118 : Ref sig .tc := ⟨.hbm, 156, rfl⟩
abbrev main_cst_23 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_24 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_25 : Ref sig .tc := ⟨.hbm, 172, rfl⟩
abbrev main_v132 : Ref sig .tc := ⟨.hbm, 173, rfl⟩
abbrev main_v133 : Ref sig .tc := ⟨.hbm, 174, rfl⟩
abbrev main_cst_26 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_27 : Ref sig .tc := ⟨.hbm, 179, rfl⟩
abbrev main_cst_28 : Ref sig .tc := ⟨.hbm, 180, rfl⟩
abbrev main_call2_v0 : Ref sig .tc := ⟨.hbm, 181, rfl⟩
abbrev main_call2_v1 : Ref sig .tc := ⟨.hbm, 182, rfl⟩
abbrev main_call2_v2 : Ref sig .tc := ⟨.hbm, 183, rfl⟩
abbrev main_call2_v3 : Ref sig .tc := ⟨.hbm, 184, rfl⟩
abbrev main_call2_v4 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_29 : Ref sig .tc := ⟨.hbm, 189, rfl⟩
abbrev main_v140 : Ref sig .tc := ⟨.hbm, 190, rfl⟩
abbrev main_v141 : Ref sig .tc := ⟨.hbm, 191, rfl⟩
abbrev main_c_30 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_c_31 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_c_32 : Ref sig .tc := ⟨.hbm, 205, rfl⟩
abbrev main_v153 : Ref sig .tc := ⟨.hbm, 206, rfl⟩
abbrev main_v154 : Ref sig .tc := ⟨.hbm, 207, rfl⟩
abbrev main_c_33 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_34 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_c_35 : Ref sig .tc := ⟨.hbm, 220, rfl⟩
abbrev main_v165 : Ref sig .tc := ⟨.hbm, 221, rfl⟩
abbrev main_v166 : Ref sig .tc := ⟨.hbm, 222, rfl⟩
abbrev main_c_36 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_cst_37 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_38 : Ref sig .tc := ⟨.hbm, 240, rfl⟩
abbrev main_call3_v0 : Ref sig .tc := ⟨.hbm, 241, rfl⟩
abbrev main_call3_v1 : Ref sig .tc := ⟨.hbm, 242, rfl⟩
abbrev main_call3_v2 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Skeleton
public import Idealize.ShloMosaic.Lib.Claim

@[expose] public section

set_option maxRecDepth 16384

noncomputable section

/-! The kernel as it is, on machine words: it ends without fault and leaves its arguments as they were. Nothing is
    said here of what it computes, so one lemma runs the body in all four cases of its two conditionals. -/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table of weights is built when this holds. -/
abbrev build (i : grid0.Coords) : Prop := k0_cond1 i = 1#1
/-- The features of a batch are built when this holds. -/
abbrev fresh (i : grid0.Coords) : Prop :=
  (Scalar.cmpi .ne (Scalar.extui (Scalar.cmpi .eq (BitVec.ofNat 32 (i 1).val) 0#32)) 0#32) = 1#1

set_option maxHeartbeats 4000000 in
/-- The body at any point, on whole buffers: it gives its three inputs back as they were, and its output and its two
    scratch buffers with some contents. -/
theorem body_runs (c : Dev nD) (i : grid0.Coords)
    (arg2 : Memref sig .tc .vmem S1x50x50 .f32) (harg2 : arg2.IsWhole)
    (arg3 : Memref sig .tc .vmem S1x2500 .f32) (harg3 : arg3.IsWhole)
    (arg4 : Memref sig .tc .vmem S1x2500 .f32) (harg4 : arg4.IsWhole)
    (arg5 : Memref sig .tc .vmem S1x50x7x50x50 .f32) (harg5 : arg5.IsWhole)
    (arg6 : Memref sig .tc .vmem S28x53x2500 .f32) (harg6 : arg6.IsWhole)
    (arg7 : Memref sig .tc .vmem S50x53 .f32) (harg7 : arg7.IsWhole)
    (x0 : Vec F S1x50x50 .f32) (x1 : Vec F S1x2500 .f32) (x2 : Vec F S1x2500 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) E (cc0__body i arg2 harg2 arg3 harg3 arg4 harg4 arg5 harg5 arg6 harg6 arg7 harg7) K := by
  simp only [cc0__body_eq_skeleton]; unfold cc0__body_skel
  simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton]
  by_cases hc0 : build i <;> by_cases hc1 : fresh i
  all_goals
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

/-! ## The pipeline around the body -/

/-- The output window, of which nothing is said. -/
def unsaid : Fin 4 → Bool := fun w => w.val == 3

/-- The pipeline's data on core `c`: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

abbrev ms0_0 (t : Fin cfg0.N) : Memref sig .tc .vmem S1x50x50 .f32 := win0_0.stage (cfg0.slots t 0)
abbrev ms0_1 (t : Fin cfg0.N) : Memref sig .tc .vmem S1x2500 .f32 := win0_1.stage (cfg0.slots t 1)
abbrev ms0_2 (t : Fin cfg0.N) : Memref sig .tc .vmem S1x2500 .f32 := win0_2.stage (cfg0.slots t 2)
abbrev ms0_3 (t : Fin cfg0.N) : Memref sig .tc .vmem S1x50x7x50x50 .f32 := win0_3.stage (cfg0.slots t 3)
/-- The table's scratch and the features' scratch. -/
abbrev scM0_0 : Memref sig .tc .vmem S28x53x2500 .f32 := Memref.whole cc0_scratch0
abbrev scM0_1 : Memref sig .tc .vmem S50x53 .f32 := Memref.whole cc0_scratch1

/-- What the pipeline holds between points: both scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))
@[inherit_doc bodyPre]
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 1600000 in
/-- The body at any point, between what the pipeline hands it and what it takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩⟩
  iapply (body_runs c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body the launch runs at a grid point is the kernel's. -/
theorem defs₀_row (t : Fin cfg0.N) :
    defs₀ (F := F) .tc cfg0.body (cfg0.bodyArgs t (cfg0.slots t)) = bodyAt0 t := by
  unfold defs₀; rw [Defs.onTc_tc]

/-- The body meets the launch's obligation at every grid point. -/
theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

/-! ## The run and the frame -/

/-- The one buffer that the host writes after the region. -/
def later : Finset (Ref sig .tc) := {main_v11}

/-- The line after the region writes the later buffers only. -/
theorem writes_later : ∀ ops ∈ ([hostOps1] : List (List (HloOp τ sig (Elt F)))), ∀ op ∈ ops,
    ∀ b : Ref sig .tc, Proc.devRef .tc b ∈ op.writes → b ∈ later := by
  intro ops hops op hop b hb
  obtain rfl := List.mem_singleton.mp hops
  obtain rfl := List.mem_singleton.mp hop
  simp only [StableHlo.reshape_writes, Finset.mem_singleton] at hb
  cases Proc.devRef_injective _ hb; decide

set_option backward.isDefEq.respectTransparency.types false in
set_option maxHeartbeats 800000 in
/-- The launch: every input array unchanged, nothing said of the output, every counter at zero. -/
theorem run_main : θ_run defs (onTc (τ := τ) (main (F := F))) (s₀ m ρ)
    (fun r => (Pipeline.RDat.FramePostR (cfgs 0) (fun c => (dats m 0 c).toRForget unsaid) later (V m)) r ∧ r.2.sem = fun _ => 0) :=
  Pipeline.θ_run_frame_around_T_forget (Q' := _) cfgs (dats m) (0 : Fin 1) launch0 defs₀ Variants.none unsaid later m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := writes_later)
    (hmain := hmain m Variants.none) (hA := A_eq m) (hΦ := fun _ _ => rfl)

/-- The kernel ends without fault, its three arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(Pipeline.RDat.FramePostR.arr_in h.1 c 0 rfl).trans ((A_eq m c 0).trans (V_main_arg0 m c)),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩,
      h.2⟩) (run_main m ρ)

end Cert.Kernel.Body

end
-- ==== Proof.Values.lean ====
module

public import proofs.«01_k».proof.Proof.Gen.KernelIdeal.Skeleton
public import Idealize.ShloMosaic.Lib.Pointwise

/-! What one run of the kernel body computes, as functions of the blocks it reads: a row of the weight table, the
    table whole, the feature matrix of a batch and one slice of the output block. -/

@[expose] public section

noncomputable section

namespace Cert.KernelIdeal.Body

open Idealize.ShloMosaic Idealize.ShloMosaic.TcCoe
open Cert.KernelIdeal.Gen

variable {F : FTy → Type} [FloatOps F] [Named F]

/-! ## A row of the weight table -/

/-- The lanes' interval lengths, at least one. -/
def len (st en : Vec F S1x2500 .f32) : FVec F S1x2500 .f32 :=
  maximumf (subf (shapeCast S1x2500 en shapeCasts_S1x2500_S1x2500) (shapeCast S1x2500 st shapeCasts_S1x2500_S1x2500))
    (broadcast S1x2500 (Scalar.ofBits .f32 0x3F800000#32 : F .f32))

/-- Whether sample `q` belongs to the first twelve. -/
def inner (q : BitVec 32) : BitVec 1 := Scalar.cmpi .slt q 12#32

/-- The share of the interval's length one bin takes. -/
def bin (q : BitVec 32) : F .f32 :=
  Scalar.select (inner q) (Named.named κ "inv12" 0x3DAAAAAB#32 : F .f32) (Scalar.ofBits .f32 0x3D800000#32)

/-- The sample's place counted in bins. -/
def place (q : BitVec 32) : F .f32 :=
  Scalar.addf (Scalar.select (inner q) (Scalar.sitofp .f32 q : F .f32) (Scalar.subf (Scalar.sitofp .f32 q) (Scalar.ofBits .f32 0x41400000#32)))
    (Scalar.ofBits .f32 0x3F000000#32)

/-- The positions sampled, lane by lane. -/
def pos (q : BitVec 32) (st en : Vec F S1x2500 .f32) : FVec F S1x2500 .f32 :=
  addf (shapeCast S1x2500 st shapeCasts_S1x2500_S1x2500)
    (mulf (mulf (len st en) (broadcast S1x2500 (bin q : F .f32))) (broadcast S1x2500 (place q : F .f32)))

/-- The last column a sample may read. -/
def top (q : BitVec 32) : F .f32 :=
  Scalar.select (inner q) (Scalar.ofBits .f32 0x42440000#32 : F .f32) (Scalar.ofBits .f32 0x40000000#32)

/-- The width of the matrix sampled. -/
def width (q : BitVec 32) : F .f32 :=
  Scalar.select (inner q) (Scalar.ofBits .f32 0x42480000#32 : F .f32) (Scalar.ofBits .f32 0x40400000#32)

/-- Which lanes sample inside the matrix. -/
def ok (q : BitVec 32) (st en : Vec F S1x2500 .f32) : IVec S1x2500 1 :=
  andi (cmpf .oge (pos q st en) (broadcast S1x2500 (Scalar.ofBits .f32 0xBF800000#32 : F .f32)))
    (cmpf .ole (pos q st en) (broadcast S1x2500 (width q : F .f32)))

/-- The positions clamped into the matrix. -/
def posC (q : BitVec 32) (st en : Vec F S1x2500 .f32) : FVec F S1x2500 .f32 :=
  minimumf (maximumf (pos q st en) (broadcast S1x2500 (Scalar.ofBits .f32 0x00000000#32 : F .f32))) (broadcast S1x2500 (top q : F .f32))

/-- The columns just below, -/
def lo (q : BitVec 32) (st en : Vec F S1x2500 .f32) : FVec F S1x2500 .f32 := floor (posC q st en)

/-- and just above. -/
def hi (q : BitVec 32) (st en : Vec F S1x2500 .f32) : FVec F S1x2500 .f32 :=
  minimumf (addf (lo q st en) (broadcast S1x2500 (Scalar.ofBits .f32 0x3F800000#32 : F .f32))) (broadcast S1x2500 (top q : F .f32))

/-- The weight of the column above. -/
def frac (q : BitVec 32) (st en : Vec F S1x2500 .f32) : FVec F S1x2500 .f32 := subf (posC q st en) (lo q st en)

/-- The weight of the column above, zero outside the matrix; -/
def whi (q : BitVec 32) (st en : Vec F S1x2500 .f32) : FVec F S1x2500 .f32 :=
  select (ok q st en) (frac q st en) (broadcast S1x2500 (Scalar.ofBits .f32 0x00000000#32 : F .f32))

/-- the weight of the column below. -/
def wlo (q : BitVec 32) (st en : Vec F S1x2500 .f32) : FVec F S1x2500 .f32 :=
  select (ok q st en) (subf (broadcast S1x2500 (Scalar.ofBits .f32 0x3F800000#32 : F .f32)) (frac q st en))
    (broadcast S1x2500 (Scalar.ofBits .f32 0x00000000#32 : F .f32))

/-- The columns `at` as rows of the weight table, counted from where the matrix sampled begins. -/
def slot (q : BitVec 32) (at' : FVec F S1x2500 .f32) : IVec S1x2500 32 :=
  addi (fptosi 32 at') (broadcast S1x2500 (Scalar.select (inner q) 0#32 50#32))

/-- The row numbers of the weight table. -/
def rowNo : IVec S53x2500 32 := iota .tc S53x2500 32 [0] iota_S53x2500_d0_w32

/-- Row `q` of the table: the two weights at the two columns, zero elsewhere. -/
def wMat (q : BitVec 32) (st en : Vec F S1x2500 .f32) : FVec F S53x2500 .f32 :=
  select (cmpi .eq rowNo (broadcastTo S53x2500 (slot q (lo q st en)) broadcasts_S1x2500_S53x2500))
    (broadcastTo S53x2500 (shapeCast S1x2500 (wlo q st en) shapeCasts_S1x2500_S1x2500) broadcasts_S1x2500_S53x2500)
    (select (cmpi .eq rowNo (broadcastTo S53x2500 (slot q (hi q st en)) broadcasts_S1x2500_S53x2500))
      (broadcastTo S53x2500 (shapeCast S1x2500 (whi q st en) shapeCasts_S1x2500_S1x2500) broadcasts_S1x2500_S53x2500)
      (broadcast S53x2500 (Scalar.ofBits .f32 0x00000000#32 : F .f32)))

/-- The row as the kernel stores it. -/
def wRow (q : BitVec 32) (st en : Vec F S1x2500 .f32) : FVec F S1x53x2500 .f32 :=
  shapeCast S1x53x2500 (wMat q st en) shapeCasts_S53x2500_S1x53x2500

/-- The table whole. -/
def table (st en : Vec F S1x2500 .f32) : Vec F S28x53x2500 .f32 :=
  fun j => wRow (BitVec.ofNat 32 (j 0).val) st en (ix3 (0 : Fin 1) (j 1 : Fin 53) (j 2 : Fin 2500))

/-! ## The feature matrix -/

/-- The batch's matrix. -/
def xMat (x : Vec F S1x50x50 .f32) : FVec F S50x50 .f32 := shapeCast S50x50 x shapeCasts_S1x50x50_S50x50

/-- The scores the neighbours are chosen by. -/
def score (x : Vec F S1x50x50 .f32) : FVec F S50x50 .f32 :=
  subf (mulf (broadcast S50x50 (Scalar.ofBits .f32 0x40000000#32 : F .f32))
      (matmul dot_S50x50_S50x50_S50x50_0_0_1_1_n_n none (xMat x) (xMat x) (constant S50x50 .f32 0x00000000#32)))
    (broadcastTo S50x50 (shapeCast S1x50 (multiReduction .add [0] S50 (mulf (mulf (xMat x) (xMat x)) (xMat x)) 0x00000000#32 reduces_S50x50_S50 (.inl rfl) rfl)
      shapeCasts_S50_S1x50) broadcasts_S1x50_S50x50)

/-- The columns' means, the same on every row. -/
def means (x : Vec F S1x50x50 .f32) : FVec F S50x50 .f32 :=
  broadcastTo S50x50 (shapeCast S1x50 (mulf (shapeCast S1x50 (multiReduction .add [0] S50 (xMat x) 0x00000000#32 reduces_S50x50_S50 (.inl rfl) rfl) shapeCasts_S50_S1x50)
    (broadcast S1x50 (Named.named κ "inv50" 0x3CA3D70A#32 : F .f32))) shapeCasts_S1x50_S1x50) broadcasts_S1x50_S50x50

/-- The column numbers. -/
def colNo : IVec S50x50 32 := iota .tc S50x50 32 [1] iota_S50x50_d1_w32

/-- Each row's first column of greatest entry, as a mask. -/
def best (v : FVec F S50x50 .f32) : IVec S50x50 1 :=
  cmpi .eq colNo (broadcastTo S50x50 (shapeCast S50x1 (multiReductionI .minsi [1] S50
    (select (cmpf .oeq v (broadcastTo S50x50 (shapeCast S50x1 (multiReduction .maximumf [1] S50 v 0xFF800000#32 reduces_S50x50_S50_2 (.inl rfl) rfl)
      shapeCasts_S50_S50x1) broadcasts_S50x1_S50x50)) colNo (broadcast S50x50 50#32))
    2147483647#32 reduces_S50x50_S50_2 rfl) shapeCasts_S50_S50x1) broadcasts_S50x1_S50x50)

/-- The mean of the column a mask names, row by row. -/
def pick (x : Vec F S1x50x50 .f32) (mask : IVec S50x50 1) : FVec F S50x1 .f32 :=
  shapeCast S50x1 (multiReduction .add [1] S50 (select mask (means x) (broadcast S50x50 (Scalar.ofBits .f32 0x00000000#32 : F .f32))) 0x00000000#32
    reduces_S50x50_S50_2 (.inl rfl) rfl) shapeCasts_S50_S50x1

/-- The entries with those a mask names struck out. -/
def strike (v : FVec F S50x50 .f32) (mask : IVec S50x50 1) : FVec F S50x50 .f32 :=
  select mask (broadcast S50x50 (Scalar.ofBits .f32 0xFF800000#32 : F .f32)) v

/-- The scores with the best struck out, -/
def score₁ (x : Vec F S1x50x50 .f32) : FVec F S50x50 .f32 := strike (score x) (best (score x))

/-- and with the best two. -/
def score₂ (x : Vec F S1x50x50 .f32) : FVec F S50x50 .f32 := strike (score₁ x) (best (score₁ x))

/-- The feature matrix: the batch's matrix and beside it, row by row, the means of its three nearest columns. -/
def feats (x : Vec F S1x50x50 .f32) : FVec F S50x53 .f32 :=
  shapeCast S50x53 (concatenate S50x53 1 [⟨S50x50, xMat x⟩, ⟨S50x1, pick x (best (score x))⟩, ⟨S50x1, pick x (best (score₁ x))⟩, ⟨S50x1, pick x (best (score₂ x))⟩]
    concatenates_S50x50_S50x1_S50x1_S50x1_S50x53_d1) shapeCasts_S50x53_S50x53

/-! ## A slice of the output -/

/-- The feature matrix times a row of the table. -/
def slice (g : Vec F S50x53 .f32) (w : Vec F S1x53x2500 .f32) : FVec F S1x50x1x50x50 .f32 :=
  shapeCast S1x50x1x50x50 (shapeCast S50x50x50 (matmul dot_S50x53_S53x2500_S50x2500_1_0_0_1_n_n none g
    (shapeCast S53x2500 w shapeCasts_S1x53x2500_S53x2500) (constant S50x2500 .f32 0x00000000#32)) shapeCasts_S50x2500_S50x50x50) shapeCasts_S50x50x50_S1x50x1x50x50

/-- Row `n` of a table. -/
def row (n : Fin 28) (w : Vec F S28x53x2500 .f32) : Vec F S1x53x2500 .f32 := fun a => w (ix3 n (a 1 : Fin 53) (a 2 : Fin 2500))

/-- The row slice `r` of step `n` is made of. -/
def rowAt (n : Fin 4) (r : Fin 7) : Fin 28 := ⟨7 * n.val + r.val, by omega⟩

/-- The output block of step `n`: slice `r` is made of row `7 n + r` of the table `w`. -/
def block (n : Fin 4) (g : Vec F S50x53 .f32) (w : Vec F S28x53x2500 .f32) : Vec F S1x50x7x50x50 .f32 :=
  fun j => slice g (row (rowAt n (j 2)) w) (ix5 (0 : Fin 1) (j 1 : Fin 50) (0 : Fin 1) (j 3 : Fin 50) (j 4 : Fin 50))

end Cert.KernelIdeal.Body
-- ==== Proof.Pieces.lean ====
module

public import proofs.«01_k».proof.Proof.Gen.KernelIdeal.Frame
public import proofs.«01_k».proof.Proof.Values

@[expose] public section

set_option maxRecDepth 16384
noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition the table's rows are built under: the first batch. -/
abbrev cond0_0 (i : grid0.Coords) : Prop := k0_cond1 i = 1#1

/-- The condition the feature matrix is built under: the first step of a batch. -/
abbrev cond0_1 (i : grid0.Coords) : Prop := (Scalar.cmpi .ne (Scalar.extui (Scalar.cmpi .eq (BitVec.ofNat 32 (i 1).val) 0#32)) 0#32) = 1#1

/-! ## The pieces a run stores -/

/-- The sample number of row `r` at step `n`, as the kernel computes it. -/
theorem word_row (n r : ℕ) : Scalar.addi (Scalar.muli (BitVec.ofNat 32 n) 7#32) (BitVec.ofNat 32 r) = BitVec.ofNat 32 (7 * n + r) := by
  show BitVec.ofNat 32 n * BitVec.ofNat 32 7 + BitVec.ofNat 32 r = _
  rw [← BitVec.ofNat_mul, ← BitVec.ofNat_add, Nat.mul_comm]

/-- Where that row lies. -/
theorem off1_eq (i : grid0.Coords) (r : Fin 7) : k0_off1 i (BitVec.ofNat 32 r.val) = ![7 * (i 1).val + r.val, 0, 0] := by
  have h1 : (i 1).val < 4 := (i 1).isLt
  have hr := r.isLt
  show ![(Scalar.addi (Scalar.muli (BitVec.ofNat 32 (i 1).val) 7#32) (BitVec.ofNat 32 r.val)).toNat, 0, 0] = _
  rw [word_row, BitVec.toNat_ofNat, Nat.mod_eq_of_lt (by omega)]

/-- A coordinate in a rectangle of unit steps, counted in the array. -/
theorem emb_unit {s : Shape} (off size : Fin s.rank → ℕ) (inb) (x : (Rect.unit off size inb).shape.Idx) (a : Fin s.rank) :
    ((Rect.unit (s := s) off size inb).emb x a).val = off a + (x a).val := by
  show off a + 1 * (x a).val = _
  rw [Nat.one_mul]

/-- The seven rows a run of step `i` stores into the table, the last first. -/
def rows (i : grid0.Coords) (h : cond0_0 i) (st en : Vec F S1x2500 .f32) : List (View.Piece (Elt F) S28x53x2500 .f32) :=
  [6, 5, 4, 3, 2, 1, 0].map fun r : Fin 7 =>
    ⟨Rect.unit (k0_off1 i (BitVec.ofNat 32 r.val)) S1x53x2500.size (k0_off1_inb i h r),
      wRow (Scalar.addi (Scalar.muli (BitVec.ofNat 32 (i 1).val) 7#32) (BitVec.ofNat 32 r.val)) st en⟩

/-- Each stored row is the table's at its place. -/
theorem rows_eq_table (i : grid0.Coords) (h : cond0_0 i) (st en : Vec F S1x2500 .f32) :
    ∀ p ∈ rows i h st en, ∀ x : p.1.shape.Idx, p.2 x = table st en (p.1.emb x) := by
  intro p hp x
  obtain ⟨r, -, rfl⟩ := List.mem_map.mp hp
  have hx : (x 0).val < 1 := (x 0).isLt
  have e (a : Fin 3) := (emb_unit (s := S28x53x2500) (k0_off1 i (BitVec.ofNat 32 r.val)) S1x53x2500.size (k0_off1_inb i h r) x a).trans
    (congrArg (· + (x a).val) (congrFun (off1_eq i r) a))
  have h0 : ((Rect.unit (s := S28x53x2500) (k0_off1 i (BitVec.ofNat 32 r.val)) S1x53x2500.size (k0_off1_inb i h r)).emb x 0).val = 7 * (i 1).val + r.val :=
    (e 0).trans (by show 7 * (i 1).val + r.val + (x 0).val = _; omega)
  show wRow _ st en x = wRow _ st en _
  rw [word_row, h0]
  congr 1
  funext a
  fin_cases a
  · exact Fin.ext (by show (x 0).val = 0; omega)
  · exact Fin.ext ((e 1).trans (Nat.zero_add _)).symm
  · exact Fin.ext ((e 2).trans (Nat.zero_add _)).symm

/-- A row in the step's seven lies under one of the stores; -/
theorem mem_rows (i : grid0.Coords) (h : cond0_0 i) (st en : Vec F S1x2500 .f32) (y : S28x53x2500.Idx) (hy : (y 0).val / 7 = (i 1).val) :
    ∃ p ∈ rows i h st en, y ∈ p.1.set := by
  have hr : (y 0).val % 7 < 7 := Nat.mod_lt _ (by decide)
  refine ⟨_, List.mem_map.mpr ⟨⟨(y 0).val % 7, hr⟩, ?_, rfl⟩, ?_⟩
  · have : ∀ r : Fin 7, r ∈ ([6, 5, 4, 3, 2, 1, 0] : List (Fin 7)) := by decide
    exact this _
  · rw [Rect.mem_set_unit]
    intro a
    rw [off1_eq]
    have h1 : (y 1).val < 53 := (y 1).isLt
    have h2 : (y 2).val < 2500 := (y 2).isLt
    fin_cases a
    · show 7 * (i 1).val + (y 0).val % 7 ≤ (y 0).val ∧ (y 0).val < 7 * (i 1).val + (y 0).val % 7 + 1
      omega
    · exact ⟨Nat.zero_le _, by show (y 1).val < 0 + 53; omega⟩
    · exact ⟨Nat.zero_le _, by show (y 2).val < 0 + 2500; omega⟩

/-- any other row lies under none. -/
theorem not_mem_rows (i : grid0.Coords) (h : cond0_0 i) (st en : Vec F S1x2500 .f32) (y : S28x53x2500.Idx) (hy : (y 0).val / 7 ≠ (i 1).val) :
    ∀ p ∈ rows i h st en, y ∉ p.1.set := by
  intro p hp hm
  obtain ⟨r, -, rfl⟩ := List.mem_map.mp hp
  have e : k0_off1 i (BitVec.ofNat 32 r.val) 0 = 7 * (i 1).val + r.val := congrFun (off1_eq i r) 0
  have h' : k0_off1 i (BitVec.ofNat 32 r.val) 0 ≤ (y 0).val ∧ (y 0).val < k0_off1 i (BitVec.ofNat 32 r.val) 0 + 1 := (Rect.mem_set_unit (inb := k0_off1_inb i h r)).mp hm 0
  have hr := r.isLt
  omega

/-- The table with the step's seven rows built. -/
def built (n : Fin 4) (st en : Vec F S1x2500 .f32) (w : Vec F S28x53x2500 .f32) : Vec F S28x53x2500 .f32 :=
  fun j => if (j 0).val / 7 = n.val then table st en j else w j

/-- The stores of the seven rows leave the table with them built. -/
theorem read_rows {sp : Space} (v : View sig .tc sp S28x53x2500 .f32) (f : v.ty.Contents (Elt F)) (i : grid0.Coords) (h : cond0_0 i) (st en : Vec F S1x2500 .f32) :
    v.read (Elt F) (v.writes (Elt F) f (rows i h st en)) = built (i 1) st en (v.read (Elt F) f) := by
  funext y
  unfold built
  split_ifs with hy
  · exact View.read_writes_apply_of_pieces v f _ _ (rows_eq_table i h st en) y (mem_rows i h st en y hy)
  · exact View.read_writes_apply_of_forall_not_mem v f y _ (not_mem_rows i h st en y hy)

/-- Row `7 n + r` of the table built at step `n` is the final one. -/
theorem row_built (n : Fin 4) (r : Fin 7) (st en : Vec F S1x2500 .f32) (w : Vec F S28x53x2500 .f32) :
    row (rowAt n r) (built n st en w) = row (rowAt n r) (table st en) := by
  funext a
  have hr := r.isLt
  exact if_pos (show (7 * n.val + r.val) / 7 = n.val by omega)

/-- A load of a row reads the row. -/
theorem readAt_row {sp : Space} (v : View sig .tc sp S28x53x2500 .f32) (f : v.ty.Contents (Elt F)) (i : grid0.Coords) (r : Fin 7) (inb) :
    v.readAt (Elt F) (Rect.unit (s := S28x53x2500) (k0_off2 i (BitVec.ofNat 32 r.val)) S1x53x2500.size inb).toLoadRect f = row (rowAt (i 1) r) (v.read (Elt F) f) := by
  funext x
  show v.read (Elt F) f _ = v.read (Elt F) f _
  congr 1
  have hx : (x 0).val < 1 := (x 0).isLt
  have e (a : Fin 3) := (emb_unit (s := S28x53x2500) (k0_off2 i (BitVec.ofNat 32 r.val)) S1x53x2500.size inb x a).trans
    (congrArg (· + (x a).val) (congrFun (off1_eq i r) a))
  funext a
  fin_cases a
  · exact Fin.ext ((e 0).trans (by show 7 * (i 1).val + r.val + (x 0).val = 7 * (i 1).val + r.val; omega))
  · exact Fin.ext ((e 1).trans (Nat.zero_add _))
  · exact Fin.ext ((e 2).trans (Nat.zero_add _))

/-- A load of a row of the step after the seven stores reads the row of the final table. -/
theorem readCov_row {sp : Space} (v : View sig .tc sp S28x53x2500 .f32) (i : grid0.Coords) (h : cond0_0 i) (st en : Vec F S1x2500 .f32) (r : Fin 7) (inb) :
    v.readCov (rows i h st en) (Rect.unit (s := S28x53x2500) (k0_off2 i (BitVec.ofNat 32 r.val)) S1x53x2500.size inb).toLoadRect = row (rowAt (i 1) r) (table st en) :=
  (readAt_row v _ i r inb).trans ((congrArg (row (rowAt (i 1) r)) (read_rows v _ i h st en)).trans (row_built (i 1) r st en _))

/-- The slices lie in the block. -/
theorem slice_inb : ∀ (r : Fin 7) (a : Fin 5), ![0, 0, r.val, 0, 0] a + S1x50x1x50x50.size a ≤ S1x50x7x50x50.size a := by decide

/-- The seven slices a run stores into the output block, the last first. -/
def slices (g : Vec F S50x53 .f32) (w : Fin 7 → Vec F S1x53x2500 .f32) : List (View.Piece (Elt F) S1x50x7x50x50 .f32) :=
  [6, 5, 4, 3, 2, 1, 0].map fun r : Fin 7 =>
    ⟨Rect.unit ![0, 0, r.val, 0, 0] S1x50x1x50x50.size (slice_inb r), slice g (w r)⟩

/-- The stores of the seven slices leave the output block. -/
theorem read_slices {sp : Space} (v : View sig .tc sp S1x50x7x50x50 .f32) (f : v.ty.Contents (Elt F)) (n : Fin 4) (g : Vec F S50x53 .f32) (w : Vec F S28x53x2500 .f32) :
    v.read (Elt F) (v.writes (Elt F) f (slices g (fun r => row (rowAt n r) w))) = block n g w := by
  funext y
  refine View.read_writes_apply_of_pieces v f _ _ ?_ y ?_
  · intro p hp x
    obtain ⟨r, -, rfl⟩ := List.mem_map.mp hp
    have h0 : (x 0).val < 1 := (x 0).isLt
    have h2 : (x 2).val < 1 := (x 2).isLt
    have e (a : Fin 5) := emb_unit (s := S1x50x7x50x50) ![0, 0, r.val, 0, 0] S1x50x1x50x50.size (slice_inb r) x a
    have e2 : (Rect.unit (s := S1x50x7x50x50) ![0, 0, r.val, 0, 0] S1x50x1x50x50.size (slice_inb r)).emb x 2 = r :=
      Fin.ext ((e 2).trans (by show r.val + (x 2).val = r.val; omega))
    show slice g (row (rowAt n r) w) x = slice g (row (rowAt n ((Rect.unit (s := S1x50x7x50x50) ![0, 0, r.val, 0, 0] S1x50x1x50x50.size (slice_inb r)).emb x 2)) w) _
    rw [show rowAt n ((Rect.unit (s := S1x50x7x50x50) ![0, 0, r.val, 0, 0] S1x50x1x50x50.size (slice_inb r)).emb x 2) = rowAt n r from congrArg (rowAt n) e2]
    congr 1
    funext a
    fin_cases a
    · exact Fin.ext (by show (x 0).val = 0; omega)
    · exact Fin.ext ((e 1).trans (Nat.zero_add _)).symm
    · exact Fin.ext (by show (x 2).val = 0; omega)
    · exact Fin.ext ((e 3).trans (Nat.zero_add _)).symm
    · exact Fin.ext ((e 4).trans (Nat.zero_add _)).symm
  · refine ⟨_, List.mem_map.mpr ⟨y 2, ?_, rfl⟩, ?_⟩
    · have : ∀ r : Fin 7, r ∈ ([6, 5, 4, 3, 2, 1, 0] : List (Fin 7)) := by decide
      exact this _
    · rw [Rect.mem_set_unit]
      have h0 : (y 0).val < 1 := (y 0).isLt
      have h1 : (y 1).val < 50 := (y 1).isLt
      have h3 : (y 3).val < 50 := (y 3).isLt
      have h4 : (y 4).val < 50 := (y 4).isLt
      intro a
      fin_cases a
      · show 0 ≤ (y 0).val ∧ (y 0).val < 0 + 1; omega
      · show 0 ≤ (y 1).val ∧ (y 1).val < 0 + 50; omega
      · show (y 2).val ≤ (y 2).val ∧ (y 2).val < (y 2).val + 1; omega
      · show 0 ≤ (y 3).val ∧ (y 3).val < 0 + 50; omega
      · show 0 ≤ (y 4).val ∧ (y 4).val < 0 + 50; omega

/-- The block depends on the table's seven rows of the step only. -/
theorem block_built (n : Fin 4) (g : Vec F S50x53 .f32) (st en : Vec F S1x2500 .f32) (w : Vec F S28x53x2500 .f32) :
    block n g (built n st en w) = block n g (table st en) := by
  funext j
  exact congrArg (fun v => slice g v _) (row_built n (j 2) st en w)

/-- The zero offset of a rank-two load, -/
theorem zero2 : (![0, 0] : Fin 2 → ℕ) = fun _ => 0 := by funext a; fin_cases a <;> rfl

/-- of a rank-three load. -/
theorem zero3 : (![0, 0, 0] : Fin 3 → ℕ) = fun _ => 0 := by funext a; fin_cases a <;> rfl

/-- A load of a whole buffer reads it. -/
theorem readAt_whole {S : Shape} {e : EltTy} {sp : Space} (m : Memref sig .tc sp S e) (hm : m.IsWhole) (x : S.Idx → Elt F e)
    {off : Fin S.rank → ℕ} (h : off = fun _ => 0) (inb : ∀ a, off a + S.size a ≤ S.size a) :
    View.readAt (Elt F) m.view (Rect.unit off S.size inb).toLoadRect (hm.unread x) = x := by
  rw [View.readAt_eq_ld, hm.read_unread]
  exact View.ld_unit_zero h inb x

/-- A load of a row of a whole buffer holding a table reads the table's row. -/
theorem readAt_row_whole (m : Memref sig .tc .vmem S28x53x2500 .f32) (hm : m.IsWhole) (w : Vec F S28x53x2500 .f32) (i : grid0.Coords) (r : Fin 7) (inb) :
    View.readAt (Elt F) m.view (Rect.unit (s := S28x53x2500) (k0_off2 i (BitVec.ofNat 32 r.val)) S1x53x2500.size inb).toLoadRect (hm.unread w) = row (rowAt (i 1) r) w :=
  (readAt_row m.view (hm.unread w) i r inb).trans (congrArg _ (hm.read_unread w))

end Cert.KernelIdeal.Body
-- ==== Proof.Body.lean ====
module

public import proofs.«01_k».proof.Proof.Pieces

@[expose] public section

set_option maxRecDepth 16384
noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The runs -/

set_option maxHeartbeats 1000000 in
/-- At the first point: the run builds the step's seven rows and the feature matrix. -/
theorem run_A (c : Dev nD) (i : grid0.Coords) (arg2 : Memref sig .tc .vmem S1x50x50 .f32) (harg2 : arg2.IsWhole) (arg3 : Memref sig .tc .vmem S1x2500 .f32) (harg3 : arg3.IsWhole) (arg4 : Memref sig .tc .vmem S1x2500 .f32) (harg4 : arg4.IsWhole) (arg5 : Memref sig .tc .vmem S1x50x7x50x50 .f32) (harg5 : arg5.IsWhole) (arg6 : Memref sig .tc .vmem S28x53x2500 .f32) (harg6 : arg6.IsWhole) (arg7 : Memref sig .tc .vmem S50x53 .f32) (harg7 : arg7.IsWhole) (hc0 : cond0_0 i) (hc1 : cond0_1 i)
    (x0 : Vec F S1x50x50 .f32) (x1 : Vec F S1x2500 .f32) (x2 : Vec F S1x2500 .f32) (w : Vec F S28x53x2500 .f32) (g : Vec F S50x53 .f32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare w ∗ owns (c : Thread nD τ) arg7 fullShare g
            ∗ (iprop(owns (c : Thread nD τ) arg2 fullShare x0 ∗ owns (c : Thread nD τ) arg3 fullShare x1 ∗ owns (c : Thread nD τ) arg4 fullShare x2 ∗ owns (c : Thread nD τ) arg5 fullShare (block (i 1) (feats x0) (table x1 x2)) ∗ owns (c : Thread nD τ) arg6 fullShare (built (i 1) x1 x2 w) ∗ owns (c : Thread nD τ) arg7 fullShare (feats x0)) -∗ K ⟨⟩))
          ⊢ wp frame (wpE (defs₀ (F := F)) Variants.none c none) E (cc0__body i arg2 harg2 arg3 harg3 arg4 harg4 arg5 harg5 arg6 harg6 arg7 harg7) K := by
    intro E K
    simp only [cc0__body_eq_skeleton]; unfold cc0__body_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton]
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
    obtain rfl := harg2.eq_unread hf0; obtain rfl := harg3.eq_unread hf1; obtain rfl := harg4.eq_unread hf2
    obtain rfl := harg6.eq_unread hs0; obtain rfl := harg7.eq_unread hs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    have e1 := readAt_whole arg3 harg3 x1 zero2 inb_S1x2500_S1x2500_0_0
    have e2 := readAt_whole arg4 harg4 x2 zero2 inb_S1x2500_S1x2500_0_0
    have e0 := readAt_whole arg2 harg2 x0 zero3 inb_S1x50x50_S1x50x50_0_0_0
    have hrows : run_A.sl.HS0_7 c i arg3 harg3 arg4 harg4 hc0 x1 x2 = rows i hc0 x1 x2 := by
      sl_unfold_words
      rw [e1, e2]
      unfold_payloads
      simp only [rows, List.map, wRow, wMat, rowNo, slot, wlo, whi, frac, hi, lo, posC, ok, width, top, pos, place, bin, inner, len, k0_off1]
      rfl
    have hfeats : run_A.sl.HS1_1 c arg2 harg2 x0 = [⟨Rect.unit ![0, 0] S50x53.size inb_S50x53_S50x53_0_0, feats x0⟩] := by
      sl_unfold_words
      rw [e0]
      unfold_payloads
      simp only [feats, pick, strike, score₂, score₁, best, score, means, colNo, xMat]
    have hv6 : run_A.sl.v6 c arg2 harg2 arg7 x0 = feats x0 := by
      unfold run_A.sl.v6
      rw [hfeats]
      exact View.readCov_unit_zero _ zero2 _ _
    isplitl [H3]
    · iexists _; isplitr; swap; · iexact H3
      ipureintro
      rw [← read_slices arg5.view f3 (i 1) (feats x0) (table x1 x2)]
      congr 2
      unfold run_A.sl.r_34 run_A.sl.v10 run_A.sl.v20 run_A.sl.v30 run_A.sl.v40 run_A.sl.v50 run_A.sl.v60 run_A.sl.v70
      rw [hrows, hv6]
      simp only [slices, List.map, ← readCov_row arg6.view i hc0 x1 x2 _ (k0_off2_inb i _)]
      unfold_payloads
      rfl
    isplitl [HS0]
    · iexists _; isplitr; swap; · iexact HS0
      ipureintro
      rw [hrows, read_rows, harg6.read_unread]
    iexists _; isplitr; swap; · iexact HS1
    ipureintro
    rw [hfeats, View.read_writes_eq_canon _ _ _ (fun y => ⟨_, List.mem_singleton_self _, View.mem_set_unit_zero zero2 inb_S50x53_S50x53_0_0 y⟩)]
    exact View.canon_unit_zero (Val := Elt F) (e := .f32) zero2 inb_S50x53_S50x53_0_0 (feats x0)

set_option maxHeartbeats 1000000 in
/-- At the first batch's later points: the run builds the step's seven rows. -/
theorem run_B (c : Dev nD) (i : grid0.Coords) (arg2 : Memref sig .tc .vmem S1x50x50 .f32) (harg2 : arg2.IsWhole) (arg3 : Memref sig .tc .vmem S1x2500 .f32) (harg3 : arg3.IsWhole) (arg4 : Memref sig .tc .vmem S1x2500 .f32) (harg4 : arg4.IsWhole) (arg5 : Memref sig .tc .vmem S1x50x7x50x50 .f32) (harg5 : arg5.IsWhole) (arg6 : Memref sig .tc .vmem S28x53x2500 .f32) (harg6 : arg6.IsWhole) (arg7 : Memref sig .tc .vmem S50x53 .f32) (harg7 : arg7.IsWhole) (hc0 : cond0_0 i) (hc1 : ¬ cond0_1 i)
    (x0 : Vec F S1x50x50 .f32) (x1 : Vec F S1x2500 .f32) (x2 : Vec F S1x2500 .f32) (w : Vec F S28x53x2500 .f32) (g : Vec F S50x53 .f32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare w ∗ owns (c : Thread nD τ) arg7 fullShare g
            ∗ (iprop(owns (c : Thread nD τ) arg2 fullShare x0 ∗ owns (c : Thread nD τ) arg3 fullShare x1 ∗ owns (c : Thread nD τ) arg4 fullShare x2 ∗ owns (c : Thread nD τ) arg5 fullShare (block (i 1) g (table x1 x2)) ∗ owns (c : Thread nD τ) arg6 fullShare (built (i 1) x1 x2 w) ∗ owns (c : Thread nD τ) arg7 fullShare g) -∗ K ⟨⟩))
          ⊢ wp frame (wpE (defs₀ (F := F)) Variants.none c none) E (cc0__body i arg2 harg2 arg3 harg3 arg4 harg4 arg5 harg5 arg6 harg6 arg7 harg7) K := by
    intro E K
    simp only [cc0__body_eq_skeleton]; unfold cc0__body_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton]
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
    obtain rfl := harg2.eq_unread hf0; obtain rfl := harg3.eq_unread hf1; obtain rfl := harg4.eq_unread hf2
    obtain rfl := harg6.eq_unread hs0; obtain rfl := harg7.eq_unread hs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    have e1 := readAt_whole arg3 harg3 x1 zero2 inb_S1x2500_S1x2500_0_0
    have e2 := readAt_whole arg4 harg4 x2 zero2 inb_S1x2500_S1x2500_0_0
    have e0 := readAt_whole arg2 harg2 x0 zero3 inb_S1x50x50_S1x50x50_0_0_0
    have hrows : run_B.sl.HS0_7 c i arg3 harg3 arg4 harg4 hc0 x1 x2 = rows i hc0 x1 x2 := by
      sl_unfold_words
      rw [e1, e2]
      unfold_payloads
      simp only [rows, List.map, wRow, wMat, rowNo, slot, wlo, whi, frac, hi, lo, posC, ok, width, top, pos, place, bin, inner, len, k0_off1]
      rfl
    have e7 := readAt_whole arg7 harg7 g zero2 inb_S50x53_S50x53_0_0
    isplitl [H3]
    · iexists _; isplitr; swap; · iexact H3
      ipureintro
      rw [← read_slices arg5.view f3 (i 1) g (table x1 x2)]
      congr 2
      unfold run_B.sl.r_30 run_B.sl.r_29 run_B.sl.v10 run_B.sl.v20 run_B.sl.v30 run_B.sl.v40 run_B.sl.v50 run_B.sl.v60 run_B.sl.v70
      rw [hrows, e7]
      simp only [slices, List.map, ← readCov_row arg6.view i hc0 x1 x2 _ (k0_off2_inb i _)]
      unfold_payloads
      rfl
    isplitl [HS0]
    · iexists _; isplitr; swap; · iexact HS0
      ipureintro
      rw [hrows, read_rows, harg6.read_unread]
    iexists _; isplitr; swap; · iexact HS1
    ipureintro; exact harg7.read_unread _

set_option maxHeartbeats 1000000 in
/-- At a later batch's first point: the run builds the feature matrix. -/
theorem run_C (c : Dev nD) (i : grid0.Coords) (arg2 : Memref sig .tc .vmem S1x50x50 .f32) (harg2 : arg2.IsWhole) (arg3 : Memref sig .tc .vmem S1x2500 .f32) (harg3 : arg3.IsWhole) (arg4 : Memref sig .tc .vmem S1x2500 .f32) (harg4 : arg4.IsWhole) (arg5 : Memref sig .tc .vmem S1x50x7x50x50 .f32) (harg5 : arg5.IsWhole) (arg6 : Memref sig .tc .vmem S28x53x2500 .f32) (harg6 : arg6.IsWhole) (arg7 : Memref sig .tc .vmem S50x53 .f32) (harg7 : arg7.IsWhole) (hc0 : ¬ cond0_0 i) (hc1 : cond0_1 i)
    (x0 : Vec F S1x50x50 .f32) (x1 : Vec F S1x2500 .f32) (x2 : Vec F S1x2500 .f32) (w : Vec F S28x53x2500 .f32) (g : Vec F S50x53 .f32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare w ∗ owns (c : Thread nD τ) arg7 fullShare g
            ∗ (iprop(owns (c : Thread nD τ) arg2 fullShare x0 ∗ owns (c : Thread nD τ) arg3 fullShare x1 ∗ owns (c : Thread nD τ) arg4 fullShare x2 ∗ owns (c : Thread nD τ) arg5 fullShare (block (i 1) (feats x0) w) ∗ owns (c : Thread nD τ) arg6 fullShare w ∗ owns (c : Thread nD τ) arg7 fullShare (feats x0)) -∗ K ⟨⟩))
          ⊢ wp frame (wpE (defs₀ (F := F)) Variants.none c none) E (cc0__body i arg2 harg2 arg3 harg3 arg4 harg4 arg5 harg5 arg6 harg6 arg7 harg7) K := by
    intro E K
    simp only [cc0__body_eq_skeleton]; unfold cc0__body_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton]
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
    obtain rfl := harg2.eq_unread hf0; obtain rfl := harg3.eq_unread hf1; obtain rfl := harg4.eq_unread hf2
    obtain rfl := harg6.eq_unread hs0; obtain rfl := harg7.eq_unread hs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    have e6 (r : Fin 7) := readAt_row_whole arg6 harg6 w i r (k0_off2_inb i _)
    have e0 := readAt_whole arg2 harg2 x0 zero3 inb_S1x50x50_S1x50x50_0_0_0
    have hfeats : run_C.sl.HS1_1 c arg2 harg2 x0 = [⟨Rect.unit ![0, 0] S50x53.size inb_S50x53_S50x53_0_0, feats x0⟩] := by
      sl_unfold_words
      rw [e0]
      unfold_payloads
      simp only [feats, pick, strike, score₂, score₁, best, score, means, colNo, xMat]
    have hv6 : run_C.sl.v6 c arg2 harg2 arg7 x0 = feats x0 := by
      unfold run_C.sl.v6
      rw [hfeats]
      exact View.readCov_unit_zero _ zero2 _ _
    isplitl [H3]
    · iexists _; isplitr; swap; · iexact H3
      ipureintro
      rw [← read_slices arg5.view f3 (i 1) (feats x0) w]
      congr 2
      unfold run_C.sl.r_5
      rw [hv6]
      simp only [slices, List.map, ← e6]
      unfold_payloads
      rfl
    isplitl [HS0]
    · iexists _; isplitr; swap; · iexact HS0
      ipureintro
      exact harg6.read_unread _
    iexists _; isplitr; swap; · iexact HS1
    ipureintro
    rw [hfeats, View.read_writes_eq_canon _ _ _ (fun y => ⟨_, List.mem_singleton_self _, View.mem_set_unit_zero zero2 inb_S50x53_S50x53_0_0 y⟩)]
    exact View.canon_unit_zero (Val := Elt F) (e := .f32) zero2 inb_S50x53_S50x53_0_0 (feats x0)

set_option maxHeartbeats 1000000 in
/-- At any other point: the run reads both as it finds them. -/
theorem run_D (c : Dev nD) (i : grid0.Coords) (arg2 : Memref sig .tc .vmem S1x50x50 .f32) (harg2 : arg2.IsWhole) (arg3 : Memref sig .tc .vmem S1x2500 .f32) (harg3 : arg3.IsWhole) (arg4 : Memref sig .tc .vmem S1x2500 .f32) (harg4 : arg4.IsWhole) (arg5 : Memref sig .tc .vmem S1x50x7x50x50 .f32) (harg5 : arg5.IsWhole) (arg6 : Memref sig .tc .vmem S28x53x2500 .f32) (harg6 : arg6.IsWhole) (arg7 : Memref sig .tc .vmem S50x53 .f32) (harg7 : arg7.IsWhole) (hc0 : ¬ cond0_0 i) (hc1 : ¬ cond0_1 i)
    (x0 : Vec F S1x50x50 .f32) (x1 : Vec F S1x2500 .f32) (x2 : Vec F S1x2500 .f32) (w : Vec F S28x53x2500 .f32) (g : Vec F S50x53 .f32)  :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare w ∗ owns (c : Thread nD τ) arg7 fullShare g
            ∗ (iprop(owns (c : Thread nD τ) arg2 fullShare x0 ∗ owns (c : Thread nD τ) arg3 fullShare x1 ∗ owns (c : Thread nD τ) arg4 fullShare x2 ∗ owns (c : Thread nD τ) arg5 fullShare (block (i 1) g w) ∗ owns (c : Thread nD τ) arg6 fullShare w ∗ owns (c : Thread nD τ) arg7 fullShare g) -∗ K ⟨⟩))
          ⊢ wp frame (wpE (defs₀ (F := F)) Variants.none c none) E (cc0__body i arg2 harg2 arg3 harg3 arg4 harg4 arg5 harg5 arg6 harg6 arg7 harg7) K := by
    intro E K
    simp only [cc0__body_eq_skeleton]; unfold cc0__body_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part12_eq_skeleton]
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, Hk⟩
    obtain rfl := harg2.eq_unread hf0; obtain rfl := harg3.eq_unread hf1; obtain rfl := harg4.eq_unread hf2
    obtain rfl := harg6.eq_unread hs0; obtain rfl := harg7.eq_unread hs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    have e6 (r : Fin 7) := readAt_row_whole arg6 harg6 w i r (k0_off2_inb i _)
    have e7 := readAt_whole arg7 harg7 g zero2 inb_S50x53_S50x53_0_0
    isplitl [H3]
    · iexists _; isplitr; swap; · iexact H3
      ipureintro
      rw [← read_slices arg5.view f3 (i 1) g w]
      congr 2
      unfold run_D.sl.r_1 run_D.sl.r
      rw [e7]
      simp only [slices, List.map, ← e6]
      unfold_payloads
      rfl
    isplitl [HS0]
    · iexists _; isplitr; swap; · iexact HS0
      ipureintro
      exact harg6.read_unread _
    iexists _; isplitr; swap; · iexact HS1
    ipureintro; exact harg7.read_unread _

end Cert.KernelIdeal.Body
-- ==== Proof.Region.lean ====
module

public import proofs.«01_k».proof.Proof.Body
public import Idealize.ShloMosaic.Lib.Pointwise
public import Idealize.ShloMosaic.Lib.Claim
public import Idealize.ShloMosaic.Lib.Pipeline.ValueKit

@[expose] public section

set_option maxRecDepth 16384
noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

/-- The step's number within the batch. -/
theorem coord1 (t : Fin cfg0.N) : (grid0.coords t 1).val = t.val % 4 := by
  have h : (grid0.coords t 1).val = t.val / 1 % 4 := Pipeline.Grid.coords_val t 1 (by decide) rfl
  rw [h, Nat.div_one]

/-- The batch. -/
theorem coord0 (t : Fin cfg0.N) : (grid0.coords t 0).val = t.val / 4 := by
  have ht : t.val < 16 := Nat.lt_of_lt_of_eq t.isLt N_0
  have h : (grid0.coords t 0).val = t.val / 4 % 4 := Pipeline.Grid.coords_val t 0 (by decide) rfl
  rw [h]; omega

/-- The table is built in the first batch. -/
theorem hcond0 (t : Fin cfg0.N) : cond0_0 (grid0.coords t) ↔ t.val < 4 := by
  have ht : t.val < 16 := Nat.lt_of_lt_of_eq t.isLt N_0
  have e0 := coord0 t
  have e1 := coord1 t
  simp only [cond0_0, k0_cond1, e0, e1]
  word_cmp

/-- The features are built at each batch's first step. -/
theorem hcond1 (t : Fin cfg0.N) : cond0_1 (grid0.coords t) ↔ t.val % 4 = 0 := by
  have ht : t.val < 16 := Nat.lt_of_lt_of_eq t.isLt N_0
  have e0 := coord0 t
  have e1 := coord1 t
  simp only [cond0_1, e0, e1]
  word_cmp

/-! ## What the region reads and what it leaves -/

/-- Batch `b` of `x`. -/
def xBlk (c : Dev nD) (b : Fin 4) : Vec F S1x50x50 .f32 :=
  fun j => (V m c main_arg0 : Vec F S4x50x50 .f32) (ix3 b (j 1) (j 2))

/-- The row of interval starts. -/
def stRow (c : Dev nD) : Vec F S1x2500 .f32 := V m c main_v4

/-- The row of interval ends. -/
def enRow (c : Dev nD) : Vec F S1x2500 .f32 := V m c main_v9

/-- The finished table. -/
def tab (c : Dev nD) : Vec F S28x53x2500 .f32 := table (stRow m c) (enRow m c)

/-- The features of batch `b`. -/
def gAt (c : Dev nD) (b : Fin 4) : Vec F S50x53 .f32 := feats (xBlk m c b)

/-- The region's result array: at `(b, n, q, d, t)` row `q` of the table times the features of batch `b`. -/
def arr (c : Dev nD) : Vec F S4x50x28x50x50 .f32 :=
  fun j => slice (gAt m c (j 0)) (row (j 2) (tab m c)) (ix5 0 (j 1) 0 (j 3) (j 4))

/-- Every window's block index at a point. -/
theorem idx : ∀ t : Fin grid0.N, win0_0.index t = ![(grid0.coords t 0).val, 0, 0] ∧ win0_1.index t = ![0, 0] ∧ win0_2.index t = ![0, 0]
    ∧ win0_3.index t = ![(grid0.coords t 0).val, 0, (grid0.coords t 1).val, 0, 0] := by decide +kernel

/-- The first input's block is the batch of `x`. -/
theorem iblk_x (c : Dev nD) (t : Fin cfg0.N) : (iblk m c 0 t : Vec F S1x50x50 .f32) = xBlk m c (grid0.coords t 0) := by
  funext j
  have hj : (j 0).val < 1 := (j 0).isLt
  obtain ⟨h0, -⟩ := idx t
  unfold xBlk
  blk_ext [iblk, V, h0]

/-- The second input's block is the row of starts. -/
theorem iblk_st (c : Dev nD) (t : Fin cfg0.N) : (iblk m c 1 t : Vec F S1x2500 .f32) = stRow m c := by
  funext j
  obtain ⟨-, h1, -⟩ := idx t
  unfold stRow
  blk_ext [iblk, V, h1]

/-- The third input's block is the row of ends. -/
theorem iblk_en (c : Dev nD) (t : Fin cfg0.N) : (iblk m c 2 t : Vec F S1x2500 .f32) = enRow m c := by
  funext j
  obtain ⟨-, -, h2, -⟩ := idx t
  unfold enRow
  blk_ext [iblk, V, h2]

/-! ## What the scratch buffers hold between points -/

/-- The table's rows of the steps before `n` are built. -/
def TabOk (c : Dev nD) (n : ℕ) (w : Vec F S28x53x2500 .f32) : Prop := ∀ j, (j 0).val / 7 < n → w j = tab m c j

/-- Within a batch the feature matrix is the batch's. -/
def FeatOk (c : Dev nD) (n : ℕ) (g : Vec F S50x53 .f32) : Prop := ∀ b : Fin 4, n % 4 ≠ 0 → b.val = n / 4 → g = gAt m c b

/-- Before the first point nothing is asked of the table. -/
theorem tabOk_zero (c : Dev nD) (w : Vec F S28x53x2500 .f32) : TabOk m c 0 w := fun _ h => absurd h (Nat.not_lt_zero _)

/-- At a batch's first point nothing is asked of the features. -/
theorem featOk_of_dvd (c : Dev nD) (n : ℕ) (h : n % 4 = 0) (g : Vec F S50x53 .f32) : FeatOk m c n g := fun _ h' => absurd h h'

/-- Building the rows of step `n` extends the built part of the table. -/
theorem tabOk_built (c : Dev nD) (n : Fin 4) (w : Vec F S28x53x2500 .f32) (h : TabOk m c n.val w) :
    TabOk m c (n.val + 1) (built n (stRow m c) (enRow m c) w) := by
  intro j hj
  unfold built
  split_ifs with hn
  · rfl
  · exact h j (by omega)

/-- A table whose four steps' rows are built is the finished one. -/
theorem eq_tab (c : Dev nD) (n : ℕ) (hn : 4 ≤ n) (w : Vec F S28x53x2500 .f32) (h : TabOk m c n w) : w = tab m c := by
  funext j
  have hj : (j 0).val < 28 := (j 0).isLt
  exact h j (by omega)

/-- The finished table meets what is asked at every point. -/
theorem tabOk_tab (c : Dev nD) (n : ℕ) : TabOk m c n (tab m c) := fun _ _ => rfl

/-- The features of a batch remain through the batch. -/
theorem featOk_succ (c : Dev nD) (n : ℕ) (b : Fin 4) (hb : b.val = n / 4) : FeatOk m c (n + 1) (gAt m c b) := by
  intro b' h h'
  have : b' = b := Fin.ext (by omega)
  rw [this]

/-! ## The pipeline's proof data -/

/-- Each window's current staging memref at a point, and its wholeness. -/
abbrev ms0_0 (t : Fin cfg0.N) : Memref sig .tc .vmem S1x50x50 .f32 := win0_0.stage (cfg0.slots t 0)
abbrev ms0_1 (t : Fin cfg0.N) : Memref sig .tc .vmem S1x2500 .f32 := win0_1.stage (cfg0.slots t 1)
abbrev ms0_2 (t : Fin cfg0.N) : Memref sig .tc .vmem S1x2500 .f32 := win0_2.stage (cfg0.slots t 2)
abbrev ms0_3 (t : Fin cfg0.N) : Memref sig .tc .vmem S1x50x7x50x50 .f32 := win0_3.stage (cfg0.slots t 3)
/-- The scratch operands. -/
abbrev scM0_0 : Memref sig .tc .vmem S28x53x2500 .f32 := Memref.whole cc0_scratch0
abbrev scM0_1 : Memref sig .tc .vmem S50x53 .f32 := Memref.whole cc0_scratch1

/-- The launch hands the region its scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What is held before point `n`: the table built so far, the current batch's features, the generator register. -/
def held (c : Dev nD) (n : ℕ) : sProp 𝕄 :=
  iprop(iprop((∃ w, ⌜TabOk m c n w⌝ ∗ owns (c : Thread nD τ) scM0_0 fullShare w) ∗ (∃ g, ⌜FeatOk m c n g⌝ ∗ owns (c : Thread nD τ) scM0_1 fullShare g)) ∗ (∃ r, prngReg c r))

/-- What a point leaves in the output window's buffer. -/
def outAt (c : Dev nD) (t : Fin cfg0.N) : Vec F S1x50x7x50x50 .f32 := block (grid0.coords t 1) (gAt m c (grid0.coords t 0)) (tab m c)

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := held m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at every point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- A run of the body that leaves the output block, a table and features as the next point finds them is the body's triple at the point. -/
theorem body_of_run (c : Dev nD) (t : Fin cfg0.N)
    (h : ∀ w g, TabOk m c t.val w → FeatOk m c t.val g → ∃ w' g', TabOk m c (t.val + 1) w' ∧ FeatOk m c (t.val + 1) g' ∧
      ∀ (E : Set ℕ) (K : PUnit → sProp 𝕄),
        iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ (∃ d, owns (c : Thread nD τ) (ms0_3 t) fullShare d) ∗ owns (c : Thread nD τ) scM0_0 fullShare w ∗ owns (c : Thread nD τ) scM0_1 fullShare g
            ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (outAt m c t) ∗ owns (c : Thread nD τ) scM0_0 fullShare w' ∗ owns (c : Thread nD τ) scM0_1 fullShare g') -∗ K ⟨⟩))
          ⊢ wp frame (wpE (defs₀ (F := F)) Variants.none c none) E (bodyAt0 t) K) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).owesAt () t.succ = (dats m 0 c).owesAt () t.castSucc from rfl,
    after0_0, after0_1, after0_2, after0_3,
    show (dats m 0 c).Φ t.castSucc = held m c t.val from rfl, show (dats m 0 c).Φ t.succ = held m c (t.val + 1) from rfl]
  unfold held
  iintro ⟨⟨⟨⟨%w, %hw, HS0⟩, ⟨%g, %hg, HS1⟩⟩, Hg⟩, Ho, ⟨%d0, H0⟩, ⟨%d1, H1⟩, ⟨%d2, H2⟩, ⟨%d3, H3⟩⟩
  obtain ⟨w', g', hw', hg', hrun⟩ := h w g hw hg
  iapply (hrun Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexists _; isplitr; · ipureintro; exact hw'
        iexact HS0
      iexists _; isplitr; · ipureintro; exact hg'
      iexact HS1
    iexact Hg
  isplitl [Ho]; · iexact Ho
  isplitl [H0]; · iexact H0
  isplitl [H1]; · iexact H1
  isplitl [H2]; · iexact H2
  iexact H3

/-- The body's triple at every point. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have e0 := coord0 t
  have e1 := coord1 t
  refine body_of_run m c t fun w g hw hg => ?_
  by_cases h0 : t.val < 4
  · have e1' : (grid0.coords t 1).val = t.val := by omega
    have hw' : TabOk m c (t.val + 1) (built (grid0.coords t 1) (stRow m c) (enRow m c) w) := by
      have := tabOk_built m c (grid0.coords t 1) w (by rw [e1']; exact hw)
      rwa [e1'] at this
    by_cases h1 : t.val % 4 = 0
    · refine ⟨_, _, hw', featOk_succ m c t.val (grid0.coords t 0) e0, ?_⟩
      have h := run_A (F := F) c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) scM0_0 (Memref.isWhole_whole _) scM0_1 (Memref.isWhole_whole _) ((hcond0 t).mpr h0) ((hcond1 t).mpr h1) (xBlk m c (grid0.coords t 0)) (stRow m c) (enRow m c) w g
      rw [iblk_x, iblk_st, iblk_en]
      exact h
    · refine ⟨_, _, hw', featOk_succ m c t.val (grid0.coords t 0) e0, ?_⟩
      have h := run_B (F := F) c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) scM0_0 (Memref.isWhole_whole _) scM0_1 (Memref.isWhole_whole _) ((hcond0 t).mpr h0) (fun h => h1 ((hcond1 t).mp h)) (xBlk m c (grid0.coords t 0)) (stRow m c) (enRow m c) w (gAt m c (grid0.coords t 0))
      obtain rfl := hg (grid0.coords t 0) h1 e0
      rw [iblk_x, iblk_st, iblk_en]
      exact h
  · obtain rfl := eq_tab m c t.val (by omega) w hw
    by_cases h1 : t.val % 4 = 0
    · refine ⟨_, _, tabOk_tab m c _, featOk_succ m c t.val (grid0.coords t 0) e0, ?_⟩
      have h := run_C (F := F) c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) scM0_0 (Memref.isWhole_whole _) scM0_1 (Memref.isWhole_whole _) (fun h => h0 ((hcond0 t).mp h)) ((hcond1 t).mpr h1) (xBlk m c (grid0.coords t 0)) (stRow m c) (enRow m c) (tab m c) g
      rw [iblk_x, iblk_st, iblk_en]
      exact h
    · refine ⟨_, _, tabOk_tab m c _, featOk_succ m c t.val (grid0.coords t 0) e0, ?_⟩
      have h := run_D (F := F) c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) scM0_0 (Memref.isWhole_whole _) scM0_1 (Memref.isWhole_whole _) (fun h => h0 ((hcond0 t).mp h)) (fun h => h1 ((hcond1 t).mp h)) (xBlk m c (grid0.coords t 0)) (stRow m c) (enRow m c) (tab m c) (gAt m c (grid0.coords t 0))
      obtain rfl := hg (grid0.coords t 0) h1 e0
      rw [iblk_x, iblk_st, iblk_en]
      exact h

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends with the arrays of the pipeline at what the points leave and the counters at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      rw [show (dats m 0 c).Φ 0 = held m c 0 from rfl, PhiA0_eq]
      unfold held
      iintro ⟨⟨⟨%w, HS0⟩, ⟨%g, HS1⟩⟩, Hg⟩
      isplitl [HS0 HS1]
      · isplitl [HS0]
        · iexists _; isplitr; · ipureintro; exact tabOk_zero m c w
          iexact HS0
        iexists _; isplitr; · ipureintro; exact featOk_of_dvd m c 0 rfl g
        iexact HS1
      iexact Hg)
    (hout := fun c => by
      rw [show (dats m 0 c).Φ (Fin.last _) = held m c cfg0.N from rfl, PhiA0_eq]
      unfold held
      iintro ⟨⟨⟨%w, -, HS0⟩, ⟨%g, -, HS1⟩⟩, Hg⟩
      isplitl [HS0 HS1]
      · isplitl [HS0]
        · iexists _; iexact HS0
        iexists _; iexact HS1
      iexact Hg)

/-- The argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- After the run the region's result array is `arr`. -/
theorem arrAt_eq (c : Dev nD) : (dats m 0 c).arrAt 3 (cfgs 0).N = arr m c := by
  refine (dats m 0 c).arrAt_eq_of_covers 3 _ (by decide +kernel) fun t hf y => ?_
  obtain ⟨-, -, -, h3⟩ := idx t
  blk_simp
  rw [after0_3]
  unfold outAt arr block gAt
  have hy := (y 0).isLt
  have a0 : (win0_3.blk t).view.emb y 0 = grid0.coords t 0 := Fin.ext (by blk_simp [h3])
  have a1 : (win0_3.blk t).view.emb y 1 = y 1 := Fin.ext (by blk_simp [h3])
  have a2 : (win0_3.blk t).view.emb y 2 = rowAt (grid0.coords t 1) (y 2) := Fin.ext (by blk_simp [h3]; show _ = 7 * _ + _; omega)
  have a3 : (win0_3.blk t).view.emb y 3 = y 3 := Fin.ext (by blk_simp [h3])
  have a4 : (win0_3.blk t).view.emb y 4 = y 4 := Fin.ext (by blk_simp [h3])
  rw [a0, a1, a2, a3, a4]

/-- The program's result: the region's array, its channel and row axes joined. -/
def result (c : Dev nD) : Vec F S4x1400x50x50 .f32 := shapeCast S4x1400x50x50 (arr m c) shapeCasts_S4x50x28x50x50_S4x1400x50x50

/-- Every run ends with the result buffer at `result` and the arguments unchanged. -/
theorem run : θ_run defs (onTc (τ := τ) (main (F := F))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := (θ_run defs _ _).mono (fun _ h => h.1) (run_main m ρ)
  refine (θ_run defs _ _).mono (fun r h c => ⟨?_, h.1 c⟩) (θ_run_and (frame_of m ρ (dats m) (A_eq m) h) h)
  refine ((h.2 c).2 main_v11 (Pipeline.mem_restRefs_of main_v11 (by decide) (by decide))).trans ?_
  unfold Pipeline.afterTail₀
  simp only [List.flatten_cons, List.flatten_nil, List.append_nil]
  after_results
  have e : Pipeline.withArrays (cfgs 0).spec c (V0 m c) (fun w => (dats m 0 c).arrAt w (cfgs 0).N) (Proc.tc.devRef main_v10) = (dats m 0 c).arrAt 3 (cfgs 0).N :=
    Pipeline.withArrays_arr spec0 (by decide) c (V0 m c) (fun w => (dats m 0 c).arrAt w (cfgs 0).N) 3
  unfold result
  rw [← arrAt_eq, ← e]
  rfl

end Cert.KernelIdeal.Body
-- ==== Proof.Order.lean ====
module

public import Idealize.ShloMosaic.Lib.SortFacts
public import Idealize.ShloMosaic.Lib.Pointwise
public import Mathlib.Data.EReal.Basic

/-! Choosing the greatest entries of a list of numbers, ties to the lower place: by sorting, and by taking the greatest
    again and again. -/

@[expose] public section

namespace Cert.Order

open Idealize.ShloMosaic

variable {α : Type} [LinearOrder α] {n : Nat}

/-- Place `i` is ranked ahead of place `j`: its entry is greater, or the same at a lower place. -/
def Ahead (f : Fin n → α) (i j : Fin n) : Prop := f j < f i ∨ (f j = f i ∧ i < j)

/-- Place `i` holds the greatest entry and is the lowest such place. -/
def First (f : Fin n → α) (i : Fin n) : Prop := ∀ j, f j < f i ∨ (f j = f i ∧ i ≤ j)

/-- The place of the greatest entry is one. -/
theorem First.unique {f : Fin n → α} {i j : Fin n} (hi : First f i) (hj : First f j) : i = j := by
  rcases hi j with h | ⟨h, h'⟩ <;> rcases hj i with k | ⟨k, k'⟩
  · exact absurd h (lt_asymm k)
  · exact absurd h (by rw [k]; exact lt_irrefl _)
  · exact absurd k (by rw [h]; exact lt_irrefl _)
  · exact le_antisymm h' k'

/-- Two lists of numbers ordered alike have the same place of greatest entry. -/
theorem First.congr {β : Type} [LinearOrder β] {f : Fin n → α} {g : Fin n → β} (h : ∀ i j, f i < f j ↔ g i < g j) {i : Fin n}
    (hi : First f i) : First g i := fun j => by
  rcases hi j with k | ⟨k, k'⟩
  · exact Or.inl ((h j i).mp k)
  · refine Or.inr ⟨?_, k'⟩
    refine le_antisymm (not_lt.mp fun c => ?_) (not_lt.mp fun c => ?_)
    · exact absurd ((h i j).mpr c) (by rw [k]; exact lt_irrefl _)
    · exact absurd ((h j i).mpr c) (by rw [k]; exact lt_irrefl _)

/-- Inserting a place lower than all others into a ranked list keeps it ranked. -/
theorem ranked_insert (f : Fin n → α) (a : Fin n) (l : List (Fin n)) (ha : ∀ b ∈ l, a < b) (hl : l.Pairwise (Ahead f)) :
    (insertBefore (fun k k' => decide (f k' < f k)) a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih (fun d hd => ha d (List.mem_cons_of_mem _ hd)) hl.2⟩
      rcases List.mem_cons.mp ((perm_insertBefore _ a l).mem_iff.mp hc) with rfl | hc
      · exact Or.inl (of_decide_eq_true h)
      · exact hl.1 c hc
    · rename_i h
      have hba : f b ≤ f a := not_lt.mp fun c => h (decide_eq_true c)
      have key : ∀ c ∈ b :: l, f c ≤ f a → Ahead f a c := fun c hc hle => by
        rcases lt_or_eq_of_le hle with k | k
        · exact Or.inl k
        · exact Or.inr ⟨k, ha c hc⟩
      refine List.pairwise_cons.mpr ⟨fun c hc => key c hc ?_, List.pairwise_cons.mpr hl⟩
      rcases List.mem_cons.mp hc with rfl | hc'
      · exact hba
      · rcases hl.1 c hc' with k | ⟨k, _⟩
        · exact k.le.trans hba
        · exact k.le.trans hba

/-- The stable sort by greater entry ranks a list of rising places. -/
theorem ranked_sort (f : Fin n → α) (l : List (Fin n)) (hl : l.Pairwise (· < ·)) :
    (stableSort (fun k k' => decide (f k' < f k)) l).Pairwise (Ahead f) := by
  induction l with
  | nil => exact List.Pairwise.nil
  | cons a l ih =>
    rw [List.pairwise_cons] at hl
    unfold stableSort
    exact ranked_insert f a _ (fun b hb => hl.1 b ((perm_stableSort _ l).mem_iff.mp hb)) (ih hl.2)

/-- The sorting permutation by greater entry ranks the places. -/
theorem ranked (f : Fin n → α) (i j : Fin n) (hij : i < j) :
    Ahead f (sortedFrom (fun k k' => decide (f k' < f k)) i) (sortedFrom (fun k k' => decide (f k' < f k)) j) := by
  have h : ∀ a b : Fin (sortPositions n fun k k' => decide (f k' < f k)).length, a < b →
      Ahead f ((sortPositions n fun k k' => decide (f k' < f k)).get a) ((sortPositions n fun k k' => decide (f k' < f k)).get b) :=
    List.pairwise_iff_get.mp (ranked_sort f (List.finRange n) (List.pairwise_lt_finRange n))
  unfold sortedFrom
  exact h _ _ (by simp only [Fin.lt_def, Fin.val_cast]; exact hij)

/-- With the places sorted before `r` struck down to the bottom, the greatest entry is at the place sorted at `r`. -/
theorem first_sorted [OrderBot α] (f g : Fin n → α) (hf : ∀ j, ⊥ < f j) (r : Fin n)
    (hg : ∀ j, g (sortedFrom (fun k k' => decide (f k' < f k)) j)
      = if j < r then ⊥ else f (sortedFrom (fun k k' => decide (f k' < f k)) j)) :
    First g (sortedFrom (fun k k' => decide (f k' < f k)) r) := fun j => by
  obtain ⟨k, rfl⟩ := sortedFrom_surjective (fun k k' => decide (f k' < f k)) j
  rw [hg, hg, if_neg (lt_irrefl r)]
  rcases lt_trichotomy k r with h | rfl | h
  · rw [if_pos h]; exact Or.inl (hf _)
  · exact Or.inr ⟨if_neg (lt_irrefl k), le_rfl⟩
  · rw [if_neg (lt_asymm h)]
    rcases ranked f r k h with c | ⟨c, c'⟩
    · exact Or.inl c
    · exact Or.inr ⟨c, c'.le⟩

/-- The greatest of the entries is the entry at their first greatest place. -/
theorem fold_max (f : Fin n → EReal) (i : Fin n) (hi : First f i) : Finset.univ.fold max ⊥ f = f i := by
  refine le_antisymm ((Finset.fold_max_le _).mpr ⟨bot_le, fun j _ => ?_⟩)
    ((Finset.le_fold_max _).mpr (Or.inr ⟨i, Finset.mem_univ _, le_rfl⟩))
  rcases hi j with h | ⟨h, _⟩
  · exact h.le
  · exact h.le

/-- The lesser of two words, read as numbers. -/
theorem minsi_toInt (a b : BitVec 32) : (IntOp.minsi a b).toInt = min a.toInt b.toInt := by
  unfold IntOp.minsi
  simp only [BitVec.slt_eq_decide, decide_eq_true_eq]
  split <;> omega

/-- The least of a list of words is the word at a place no other entry is below. -/
theorem fold_min (v : Fin n → BitVec 32) (b : BitVec 32) (i : Fin n) (h : ∀ j, (v i).toInt ≤ (v j).toInt)
    (hb : (v i).toInt ≤ b.toInt) : Finset.univ.fold IntOp.minsi b v = v i := by
  have key : ∀ s : Finset (Fin n), (v i).toInt ≤ (s.fold IntOp.minsi b v).toInt
      ∧ (i ∈ s → (s.fold IntOp.minsi b v).toInt ≤ (v i).toInt) := fun s => by
    induction s using Finset.cons_induction with
    | empty => exact ⟨by simpa using hb, fun h => absurd h (Finset.notMem_empty i)⟩
    | cons a s ha ih =>
      rw [Finset.fold_cons, minsi_toInt]
      refine ⟨le_min (h a) ih.1, fun hm => ?_⟩
      rcases Finset.mem_cons.mp hm with rfl | hm
      · exact min_le_left _ _
      · exact (min_le_right _ _).trans (ih.2 hm)
  exact BitVec.eq_of_toInt_eq (le_antisymm ((key _).2 (Finset.mem_univ i)) (key _).1)

end Cert.Order
-- ==== Proof.Spec.lean ====
module

public import Idealize.ShloMosaic.PureOps.Ideal.Laws
public import Idealize.ShloMosaic.Lib.Pointwise
public import Mathlib.Algebra.Order.Floor.Ring

/-! The alignment both programs compute, in the extended reals: a row of numbers read at a position between two of its
    columns, the two nearest columns weighed by their distance. -/

@[expose] public section

noncomputable section

namespace Cert.Spec

open Idealize.ShloMosaic

/-- The position clamped into the columns `0` to `m`. -/
def clip (m : Nat) (p : EReal) : EReal := min (max p 0) ((m : ℝ) : EReal)

/-- A clamped position is a real number between `0` and `m`. -/
theorem clip_real (m : Nat) (p : EReal) : ∃ y : ℝ, clip m p = (y : EReal) ∧ 0 ≤ y ∧ y ≤ m := by
  have h0 : (0 : EReal) ≤ clip m p := le_min (le_max_right _ _) (by exact_mod_cast Nat.cast_nonneg m)
  have h1 : clip m p ≤ ((m : ℝ) : EReal) := min_le_right _ _
  have hb : clip m p ≠ ⊥ := fun h => absurd (h ▸ h0) (by simp)
  have ht : clip m p ≠ ⊤ := fun h => absurd (h ▸ h1) (not_le.mpr (EReal.coe_lt_top _))
  refine ⟨(clip m p).toReal, (EReal.coe_toReal ht hb).symm, ?_, ?_⟩
  · have := h0; rw [← EReal.coe_toReal ht hb] at this; exact_mod_cast this
  · have := h1; rw [← EReal.coe_toReal ht hb] at this; exact_mod_cast this

/-- The column at or below the clamped position. -/
def below (m : Nat) (p : EReal) : Fin (m + 1) := ⟨min ⌊(clip m p).toReal⌋₊ m, by omega⟩

/-- The next column, as far as there is one. -/
def above (m : Nat) (p : EReal) : Fin (m + 1) := ⟨min ((below m p).val + 1) m, by omega⟩

/-- The distance from the column below. -/
def away (m : Nat) (p : EReal) : EReal := clip m p - (((below m p).val : ℝ) : EReal)

/-- Whether a position counts as inside. -/
def Inside (m : Nat) (p : EReal) : Prop := ((-1 : ℝ) : EReal) ≤ p ∧ p ≤ (((m : ℝ) + 1 : ℝ) : EReal)

/-- Row `f` read at position `p`: the two nearest columns weighed by distance, zero outside. -/
def lerp {m : Nat} (f : Fin (m + 1) → EReal) (p : EReal) : EReal :=
  open Classical in if Inside m p then f (below m p) * (1 - away m p) + f (above m p) * away m p else 0

/-- The position sampled: from `s`, the length to `e` (at least one) times the bin's share `c` times the place `h`. -/
def posn (s e : EReal) (c h : ℝ) : EReal := s + max (e - s) 1 * (c : EReal) * (h : EReal)

/-- The column below is the clamped position rounded down. -/
theorem floor_clip (m : Nat) (p : EReal) : Ideal.liftRound Int.floor (clip m p) = (((below m p).val : ℝ) : EReal) := by
  obtain ⟨y, hy, h0, h1⟩ := clip_real m p
  have hv : (below m p).val = ⌊y⌋₊ := by
    show min ⌊(clip m p).toReal⌋₊ m = _
    rw [hy, EReal.toReal_coe]
    exact min_eq_left (Nat.floor_le_of_le h1)
  rw [hv, hy, Ideal.liftRound_coe, ← natCast_floor_eq_intCast_floor h0]

/-- With one column, and where the clamped position is the last column, nothing is left above. -/
theorem away_last (m : Nat) (p : EReal) (h : above m p = below m p) : away m p = 0 := by
  obtain ⟨y, hy, h0, h1⟩ := clip_real m p
  have hv : (below m p).val = ⌊y⌋₊ := by
    show min ⌊(clip m p).toReal⌋₊ m = _
    rw [hy, EReal.toReal_coe]
    exact min_eq_left (Nat.floor_le_of_le h1)
  have hm : (below m p).val = m := by
    have h' := congrArg Fin.val h
    have h'' : min ((below m p).val + 1) m = (below m p).val := h'
    omega
  have hfl : (m : ℝ) ≤ y := by
    rw [← hm, hv]; exact Nat.floor_le h0
  have : y = m := le_antisymm h1 hfl
  unfold away
  rw [hm, hy, this, ← EReal.coe_sub, sub_self]; rfl

/-- A small count, rounded to a word, is its own word. -/
theorem fptosi_nat (k : Nat) (hk : k < 1000) : Ideal.fptosi 32 (((k : ℝ)) : EReal) = BitVec.ofNat 32 k := by
  unfold Ideal.fptosi
  rw [Ideal.toIntClamped_coe, if_pos (Nat.cast_nonneg k), Int.floor_natCast]
  have : max (-((2 ^ (32 - 1) : Nat) : Int)) (min (((2 ^ (32 - 1) : Nat) : Int) - 1) (k : Int)) = (k : Int) := by
    norm_num; omega
  rw [this, BitVec.ofInt_natCast]

/-- The lesser of two counts, as an extended real. -/
theorem min_nat (a b : Nat) : min ((a : ℝ) : EReal) ((b : ℝ) : EReal) = (((min a b : Nat) : ℝ) : EReal) := by
  rcases le_total a b with h | h
  · rw [min_eq_left h, min_eq_left (by exact_mod_cast h)]
  · rw [min_eq_right h, min_eq_right (by exact_mod_cast h)]

/-- The next column computed in numbers. -/
theorem above_num (m : Nat) (p : EReal) :
    min (Ideal.liftRound Int.floor (clip m p) + 1) ((m : ℝ) : EReal) = (((above m p).val : ℝ) : EReal) := by
  rw [floor_clip]
  have : (((below m p).val : ℝ) : EReal) + 1 = ((((below m p).val + 1 : Nat) : ℝ) : EReal) := by
    push_cast; rfl
  rw [this, min_nat]; rfl

/-- A row times weights that are `A` at one column, `B` at another and zero elsewhere. -/
theorem sum_two {n : Nat} (g : Fin n → EReal) (i j : Fin n) (A B : EReal) :
    ∑ k, g k * (if k = i then A else if k = j then B else 0) = g i * A + (if i = j then 0 else g j * B) := by
  have h : ∀ k, g k * (if k = i then A else if k = j then B else 0)
      = (if k = i then g i * A else 0) + (if k = j then (if i = j then 0 else g j * B) else 0) := fun k => by
    by_cases hi : k = i
    · subst hi; by_cases hj : k = j <;> simp [hj]
    · by_cases hj : k = j
      · subst hj; simp [hi, Ne.symm hi]
      · simp [hi, hj]
  rw [Finset.sum_congr rfl fun k _ => h k, Finset.sum_add_distrib, Finset.sum_ite_eq', Finset.sum_ite_eq']
  simp

/-- The row times the two weights is the row read at the position: the columns may lie anywhere in a longer row `g`, in
    which `e` says where. -/
theorem sum_lerp {n m : Nat} (g : Fin n → EReal) (e : Fin (m + 1) → Fin n) (he : Function.Injective e) (p : EReal)
    (A B : EReal) (ok : Prop) [Decidable ok] (hok : ok ↔ Inside m p) (hA : A = if ok then 1 - away m p else 0)
    (hB : B = if ok then away m p else 0) :
    ∑ k, g k * (if k = e (below m p) then A else if k = e (above m p) then B else 0) = lerp (fun k => g (e k)) p := by
  rw [sum_two, hA, hB]
  unfold lerp
  by_cases h : ok
  · rw [if_pos h, if_pos h, if_pos (hok.mp h)]
    by_cases hab : above m p = below m p
    · rw [if_pos (by rw [hab]), away_last m p hab, hab, mul_zero]
    · rw [if_neg fun c => hab (he c).symm]
  · rw [if_neg h, if_neg h, if_neg fun c => h (hok.mpr c)]
    simp

end Cert.Spec
-- ==== Proof.TableAt.lean ====
module

public import proofs.«01_k».proof.Proof.Values
public import proofs.«01_k».proof.Proof.Spec
public import Idealize.ShloMosaic.Lib.Pipeline.ValueKit
public import Idealize.ShloMosaic.PureOps.Ideal.Laws

/-! A slice of the output over the extended reals: a feature row read at the lane's position. -/

@[expose] public section

noncomputable section

namespace Cert.KernelIdeal.Body

open Idealize.ShloMosaic Idealize.ShloMosaic.TcCoe
open Cert.KernelIdeal.Gen Cert.Spec

/-- The named twelfth is one twelfth. -/
theorem inv12_val : (Named.named κ "inv12" 0x3DAAAAAB#32 : Ideal .f32) = ((1 / 12 : ℝ) : EReal) :=
  IdealRules.named_const.ideal_named_scalar _ _ _ _ rfl

/-- The named fiftieth is one fiftieth. -/
theorem inv50_val : (Named.named κ "inv50" 0x3CA3D70A#32 : Ideal .f32) = ((1 / 50 : ℝ) : EReal) :=
  IdealRules.named_const.ideal_named_scalar _ _ _ _ rfl

/-- The word's value is one sixteenth. -/
theorem lit16 : (Ideal.ofBits .f32 0x3D800000#32 : EReal) = ((1 / 16 : ℝ) : EReal) := by
  simp [Ideal.ofBits, Ideal.ieee, -EReal.coe_mul]; norm_num
/-- The word's value is twelve. -/
theorem lit12 : (Ideal.ofBits .f32 0x41400000#32 : EReal) = ((12 : ℝ) : EReal) := by
  simp [Ideal.ofBits, Ideal.ieee, -EReal.coe_mul]; norm_num
/-- The word's value is one half. -/
theorem litHalf : (Ideal.ofBits .f32 0x3F000000#32 : EReal) = ((1 / 2 : ℝ) : EReal) := by
  simp [Ideal.ofBits, Ideal.ieee, -EReal.coe_mul]; norm_num
/-- The word's value is forty-nine. -/
theorem lit49 : (Ideal.ofBits .f32 0x42440000#32 : EReal) = ((49 : ℝ) : EReal) := by
  simp [Ideal.ofBits, Ideal.ieee, -EReal.coe_mul]; norm_num
/-- The word's value is two. -/
theorem lit2 : (Ideal.ofBits .f32 0x40000000#32 : EReal) = ((2 : ℝ) : EReal) := by
  simp [Ideal.ofBits, Ideal.ieee, -EReal.coe_mul]; norm_num
/-- The word's value is fifty. -/
theorem lit50 : (Ideal.ofBits .f32 0x42480000#32 : EReal) = ((50 : ℝ) : EReal) := by
  simp [Ideal.ofBits, Ideal.ieee, -EReal.coe_mul]; norm_num
/-- The word's value is three. -/
theorem lit3 : (Ideal.ofBits .f32 0x40400000#32 : EReal) = ((3 : ℝ) : EReal) := by
  simp [Ideal.ofBits, Ideal.ieee, -EReal.coe_mul]; norm_num
/-- The word's value is minus one. -/
theorem litNeg1 : (Ideal.ofBits .f32 0xBF800000#32 : EReal) = ((-1 : ℝ) : EReal) := by
  simp [Ideal.ofBits, Ideal.ieee, -EReal.coe_mul]; norm_num

/-- The scalars of a row of the first twelve. -/
theorem scalars_inner (q : Fin 28) (h : q.val < 12) :
    inner (BitVec.ofNat 32 q.val) = 1#1 ∧ (bin (BitVec.ofNat 32 q.val) : Ideal .f32) = ((1 / 12 : ℝ) : EReal)
      ∧ (place (BitVec.ofNat 32 q.val) : Ideal .f32) = (((q.val : ℝ) + 1 / 2 : ℝ) : EReal)
      ∧ (top (BitVec.ofNat 32 q.val) : Ideal .f32) = (((49 : Nat) : ℝ) : EReal)
      ∧ (width (BitVec.ofNat 32 q.val) : Ideal .f32) = ((((49 : Nat) : ℝ) + 1 : ℝ) : EReal) := by
  have hi : inner (BitVec.ofNat 32 q.val) = 1#1 := by
    have : ∀ q : Fin 28, q.val < 12 → inner (BitVec.ofNat 32 q.val) = 1#1 := by decide
    exact this q h
  have hz : ((BitVec.ofNat 32 q.val).toInt : ℝ) = (q.val : ℝ) := by
    have : ∀ q : Fin 28, (BitVec.ofNat 32 q.val).toInt = (q.val : Int) := by decide
    rw [this q]; simp
  refine ⟨hi, ?_, ?_, ?_, ?_⟩
  · unfold bin; rw [hi]; exact inv12_val
  · unfold place; rw [hi]
    show (((BitVec.ofNat 32 q.val).toInt : ℝ) : EReal) + Ideal.ofBits .f32 0x3F000000#32 = _
    rw [hz, litHalf, ← EReal.coe_add]
  · unfold top; rw [hi]; exact lit49.trans (by norm_num)
  · unfold width; rw [hi]; exact lit50.trans (by norm_num)

/-- The scalars of a row of the last sixteen. -/
theorem scalars_outer (q : Fin 28) (h : ¬ q.val < 12) :
    inner (BitVec.ofNat 32 q.val) = 0#1 ∧ (bin (BitVec.ofNat 32 q.val) : Ideal .f32) = ((1 / 16 : ℝ) : EReal)
      ∧ (place (BitVec.ofNat 32 q.val) : Ideal .f32) = ((((q.val - 12 : Nat) : ℝ) + 1 / 2 : ℝ) : EReal)
      ∧ (top (BitVec.ofNat 32 q.val) : Ideal .f32) = (((2 : Nat) : ℝ) : EReal)
      ∧ (width (BitVec.ofNat 32 q.val) : Ideal .f32) = ((((2 : Nat) : ℝ) + 1 : ℝ) : EReal) := by
  have hi : inner (BitVec.ofNat 32 q.val) = 0#1 := by
    have : ∀ q : Fin 28, ¬ q.val < 12 → inner (BitVec.ofNat 32 q.val) = 0#1 := by decide
    exact this q h
  have hz : ((BitVec.ofNat 32 q.val).toInt : ℝ) = (q.val : ℝ) := by
    have : ∀ q : Fin 28, (BitVec.ofNat 32 q.val).toInt = (q.val : Int) := by decide
    rw [this q]; simp
  refine ⟨hi, ?_, ?_, ?_, ?_⟩
  · unfold bin; rw [hi]; exact lit16
  · unfold place; rw [hi]
    show ((((BitVec.ofNat 32 q.val).toInt : ℝ) : EReal) - Ideal.ofBits .f32 0x41400000#32) + Ideal.ofBits .f32 0x3F000000#32 = _
    rw [hz, litHalf, lit12, ← EReal.coe_sub, ← EReal.coe_add, Nat.cast_sub (by omega)]; rfl
  · unfold top; rw [hi]; exact lit2.trans (by norm_num)
  · unfold width; rw [hi]; exact lit3.trans (by norm_num)

/-- Column `i` of a matrix of `m + 1` columns laid down from row `b` of the table. -/
def spot {m : Nat} (b : Nat) (h : m + b < 53) (i : Fin (m + 1)) : Fin 53 := ⟨i.val + b, by omega⟩

/-- Different columns are laid down in different rows. -/
theorem spot_injective {m b : Nat} (h : m + b < 53) : Function.Injective (spot (m := m) b h) := fun i j e => by
  have := congrArg Fin.val e
  exact Fin.ext (Nat.add_right_cancel this)

/-- A word is row `k` of the table just when it names column `i` laid down from row `b`. -/
theorem slot_eq {m b : Nat} (h : m + b < 53) (k : Fin 53) (i : Fin (m + 1)) {α : Type} (x y : α) :
    Scalar.select (IntOp.cmpi .eq (BitVec.ofNat 32 k.val) (IntOp.addi (BitVec.ofNat 32 i.val) (BitVec.ofNat 32 b))) x y
      = if k = spot b h i then x else y := by
  have hw : (BitVec.ofNat 32 k.val == BitVec.ofNat 32 i.val + BitVec.ofNat 32 b) = decide (k = spot b h i) := by
    rw [← BitVec.ofNat_add, Bool.eq_iff_iff, beq_iff_eq, decide_eq_true_eq]
    constructor
    · intro e
      have := congrArg BitVec.toNat e
      rw [BitVec.toNat_ofNat, BitVec.toNat_ofNat, Nat.mod_eq_of_lt (by omega), Nat.mod_eq_of_lt (by omega)] at this
      exact Fin.ext this
    · rintro rfl; rfl
  unfold Scalar.select IntOp.cmpi IntOp.addi
  simp only [hw]
  by_cases e : k = spot b h i <;> simp [e]

/-- An entry of the table: the weight of the column below at that column, of the column above at that one, else zero. -/
theorem weights {m b : Nat} (h : m + b < 53) (k : Fin 53) (p A B : EReal) :
    Scalar.select (IntOp.cmpi .eq (BitVec.ofNat 32 k.val)
        (IntOp.addi (Ideal.fptosi 32 (Ideal.liftRound Int.floor (clip m p))) (BitVec.ofNat 32 b))) A
      (Scalar.select (IntOp.cmpi .eq (BitVec.ofNat 32 k.val)
          (IntOp.addi (Ideal.fptosi 32 (min (Ideal.liftRound Int.floor (clip m p) + 1) ((m : ℝ) : EReal))) (BitVec.ofNat 32 b))) B 0)
      = if k = spot b h (below m p) then A else if k = spot b h (above m p) then B else 0 := by
  rw [above_num, floor_clip, fptosi_nat _ (by omega), fptosi_nat _ (by omega), slot_eq h, slot_eq h]

/-- Whether the two comparisons hold, as a mask. -/
theorem inside_mask (m : Nat) (p x : EReal) : Scalar.select (IntOp.andi (BitVec.ofBool (decide (((-1 : ℝ) : EReal) ≤ p)))
      (BitVec.ofBool (decide (p ≤ (((m : ℝ) + 1 : ℝ) : EReal))))) x 0
    = open Classical in if Inside m p then x else 0 := by
  unfold Scalar.select IntOp.andi Inside
  generalize ((-1 : ℝ) : EReal) = u
  generalize (((m : ℝ) + 1 : ℝ) : EReal) = v
  by_cases h : u ≤ p <;> by_cases h' : p ≤ v <;> simp [h, h']

/-- An entry of the table, given the row's scalars. -/
theorem table_apply {m b : Nat} (h : m + b < 53) (c y : ℝ) (q : Fin 28) (st en : Vec Ideal S1x2500 .f32)
    (hb : Scalar.select (inner (BitVec.ofNat 32 q.val)) 0#32 50#32 = BitVec.ofNat 32 b)
    (hc : (bin (BitVec.ofNat 32 q.val) : Ideal .f32) = (c : EReal)) (hy : (place (BitVec.ofNat 32 q.val) : Ideal .f32) = (y : EReal))
    (ht : (top (BitVec.ofNat 32 q.val) : Ideal .f32) = ((m : ℝ) : EReal))
    (hw : (width (BitVec.ofNat 32 q.val) : Ideal .f32) = (((m : ℝ) + 1 : ℝ) : EReal)) (k : Fin 53) (a : Fin 2500) :
    table st en (ix3 q k a) = open Classical in
      if k = spot b h (below m (posn (st (ix2 0 a)) (en (ix2 0 a)) c y))
        then (if Inside m (posn (st (ix2 0 a)) (en (ix2 0 a)) c y) then 1 - away m (posn (st (ix2 0 a)) (en (ix2 0 a)) c y) else 0)
      else if k = spot b h (above m (posn (st (ix2 0 a)) (en (ix2 0 a)) c y))
        then (if Inside m (posn (st (ix2 0 a)) (en (ix2 0 a)) c y) then away m (posn (st (ix2 0 a)) (en (ix2 0 a)) c y) else 0)
      else 0 := by
  unfold table wRow wMat
  pointwise [slot, wlo, whi, hi, lo, ok, frac, posC, pos, len, rowNo]
  rw [hb, hc, hy, ht, hw, litNeg1]
  change Scalar.select (IntOp.cmpi .eq (BitVec.ofNat 32 k.val)
        (IntOp.addi (Ideal.fptosi 32 (Ideal.liftRound Int.floor (clip m (posn (st (ix2 0 a)) (en (ix2 0 a)) c y)))) (BitVec.ofNat 32 b))) _
      (Scalar.select (IntOp.cmpi .eq (BitVec.ofNat 32 k.val)
          (IntOp.addi (Ideal.fptosi 32 (min (Ideal.liftRound Int.floor (clip m (posn (st (ix2 0 a)) (en (ix2 0 a)) c y)) + 1) ((m : ℝ) : EReal))) (BitVec.ofNat 32 b))) _ 0) = _
  rw [weights h]
  simp only [inside_mask]
  have hd : clip m (posn (st (ix2 0 a)) (en (ix2 0 a)) c y)
      - Ideal.liftRound Int.floor (clip m (posn (st (ix2 0 a)) (en (ix2 0 a)) c y)) = away m (posn (st (ix2 0 a)) (en (ix2 0 a)) c y) := by
    rw [floor_clip]; rfl
  rw [← hd]
  congr 1

/-- A slice of the output, given the row's scalars. -/
theorem slice_apply {m b : Nat} (h : m + b < 53) (c y : ℝ) (q : Fin 28) (st en : Vec Ideal S1x2500 .f32)
    (hb : Scalar.select (inner (BitVec.ofNat 32 q.val)) 0#32 50#32 = BitVec.ofNat 32 b)
    (hc : (bin (BitVec.ofNat 32 q.val) : Ideal .f32) = (c : EReal)) (hy : (place (BitVec.ofNat 32 q.val) : Ideal .f32) = (y : EReal))
    (ht : (top (BitVec.ofNat 32 q.val) : Ideal .f32) = ((m : ℝ) : EReal))
    (hw : (width (BitVec.ofNat 32 q.val) : Ideal .f32) = (((m : ℝ) + 1 : ℝ) : EReal))
    (g : Vec Ideal S50x53 .f32) (r d t : Fin 50) (a : Fin 2500) (ha : a.val = d.val * 50 + t.val) :
    slice g (row q (table st en)) (ix5 0 r 0 d t)
      = lerp (fun k => g (ix2 r (spot b h k))) (posn (st (ix2 0 a)) (en (ix2 0 a)) c y) := by
  have e : slice g (row q (table st en)) (ix5 0 r 0 d t) = ∑ k, g (ix2 r k) * table st en (ix3 q k a) := by
    obtain ⟨v, hv⟩ := a
    change v = _ at ha
    subst ha
    unfold slice row
    pointwise [dot_S50x53_S53x2500_S50x2500_1_0_0_1_n_n]
  rw [e, Finset.sum_congr rfl fun k _ => congrArg (g (ix2 r k) * ·) (table_apply h c y q st en hb hc hy ht hw k a)]
  classical
  exact sum_lerp (fun k => g (ix2 r k)) (spot b h) (spot_injective h) _ _ _ _ Iff.rfl (by congr) (by congr)

/-- A slice of the first twelve: the matrix's row read at the lane's position. -/
theorem slice_inner (q : Fin 28) (hq : q.val < 12) (st en : Vec Ideal S1x2500 .f32) (g : Vec Ideal S50x53 .f32)
    (r d t : Fin 50) (a : Fin 2500) (ha : a.val = d.val * 50 + t.val) :
    slice g (row q (table st en)) (ix5 0 r 0 d t)
      = lerp (m := 49) (fun k => g (ix2 r (spot 0 (by omega) k)))
        (posn (st (ix2 0 a)) (en (ix2 0 a)) (1 / 12) ((q.val : ℝ) + 1 / 2)) := by
  obtain ⟨hi, hc, hy, ht, hw⟩ := scalars_inner q hq
  exact slice_apply (by omega) _ _ q st en (by rw [hi]; rfl) hc hy ht hw g r d t a ha

/-- A slice of the last sixteen: the three means beside the row read at the lane's position. -/
theorem slice_outer (q : Fin 28) (hq : ¬ q.val < 12) (st en : Vec Ideal S1x2500 .f32) (g : Vec Ideal S50x53 .f32)
    (r d t : Fin 50) (a : Fin 2500) (ha : a.val = d.val * 50 + t.val) :
    slice g (row q (table st en)) (ix5 0 r 0 d t)
      = lerp (m := 2) (fun k => g (ix2 r (spot 50 (by omega) k)))
        (posn (st (ix2 0 a)) (en (ix2 0 a)) (1 / 16) (((q.val - 12 : Nat) : ℝ) + 1 / 2)) := by
  obtain ⟨hi, hc, hy, ht, hw⟩ := scalars_outer q hq
  exact slice_apply (by omega) _ _ q st en (by rw [hi]; rfl) hc hy ht hw g r d t a ha

end Cert.KernelIdeal.Body
-- ==== Proof.FeatsAt.lean ====
module

public import proofs.«01_k».proof.Proof.Order
public import proofs.«01_k».proof.Proof.TableAt

/-! The feature matrix over the extended reals: a row of the batch's matrix, and the means of the three columns of greatest
    score. -/

@[expose] public section

noncomputable section

namespace Cert.KernelIdeal.Body

open Idealize.ShloMosaic Idealize.ShloMosaic.TcCoe
open Cert.KernelIdeal.Gen Cert.Spec Cert.Order

/-- The word's value is negative infinity. -/
theorem litBot : (Ideal.ofBits .f32 0xFF800000#32 : EReal) = ⊥ := by
  simp [Ideal.ofBits, Ideal.ieee]

/-- The score of column `j` on row `i`. -/
theorem score_apply (x : Vec Ideal S1x50x50 .f32) (i j : Fin 50) :
    score x (ix2 i j) = ((2 : ℝ) : EReal) * ∑ c, x (ix3 0 c i) * x (ix3 0 c j) - ∑ c, x (ix3 0 c j) * x (ix3 0 c j) * x (ix3 0 c j) := by
  unfold score xMat
  pointwise [dot_S50x50_S50x50_S50x50_0_0_1_1_n_n]
  rw [lit2]

/-- The mean of column `j`. -/
theorem means_apply (x : Vec Ideal S1x50x50 .f32) (i j : Fin 50) :
    means x (ix2 i j) = (∑ c, x (ix3 0 c j)) * ((1 / 50 : ℝ) : EReal) := by
  unfold means xMat
  pointwise
  rw [inv50_val]

/-- The mask marks the first place of greatest entry and no other. -/
theorem best_apply (v : FVec Ideal S50x50 .f32) (i k : Fin 50) (hk : First (fun j : Fin 50 => v (ix2 i j)) k) (j : Fin 50) :
    best v (ix2 i j) = if j = k then 1#1 else 0#1 := by
  unfold best
  pointwise [colNo]
  rw [litBot, fold_max (fun j : Fin 50 => v (ix2 i j)) k hk]
  have hz : ∀ q : Fin 50, (BitVec.ofNat 32 q.val).toInt = (q.val : Int) := by decide
  rw [fold_min _ _ k]
  · rw [if_pos rfl]
    have : ∀ j k : Fin 50, IntOp.cmpi CmpIPredicate.eq (BitVec.ofNat 32 j.val) (BitVec.ofNat 32 k.val) = if j = k then 1#1 else 0#1 := by
      decide
    exact this j k
  · intro q
    rw [if_pos rfl, hz]
    rcases hk q with h | ⟨h, h'⟩
    · rw [if_neg h.ne]
      have := k.isLt
      show (k.val : Int) ≤ 50
      omega
    · rw [if_pos h, hz]; exact_mod_cast h'
  · rw [if_pos rfl, hz]
    have := k.isLt
    show (k.val : Int) ≤ 2147483647
    omega

/-- The mean a mask of one column picks. -/
theorem pick_apply (x : Vec Ideal S1x50x50 .f32) (mask : IVec S50x50 1) (i k : Fin 50)
    (h : ∀ j : Fin 50, mask (ix2 i j) = if j = k then 1#1 else 0#1) :
    pick x mask (ix2 i 0) = (∑ c, x (ix3 0 c k)) * ((1 / 50 : ℝ) : EReal) := by
  unfold pick
  pointwise
  rw [Finset.sum_eq_single k]
  · rw [h, if_pos rfl]; exact means_apply x i k
  · intro j _ hj
    rw [h, if_neg hj]; rfl
  · intro h; exact absurd (Finset.mem_univ _) h

/-- Striking out a mask of one column. -/
theorem strike_apply (v : FVec Ideal S50x50 .f32) (mask : IVec S50x50 1) (i k : Fin 50)
    (h : ∀ j : Fin 50, mask (ix2 i j) = if j = k then 1#1 else 0#1) (j : Fin 50) :
    strike v mask (ix2 i j) = if j = k then ⊥ else v (ix2 i j) := by
  unfold strike
  pointwise
  rw [h, litBot]
  by_cases e : j = k
  · rw [if_pos e, if_pos e]; rfl
  · rw [if_neg e, if_neg e]; rfl

/-- The first fifty columns of the feature matrix are the batch's matrix. -/
theorem feats_inner (x : Vec Ideal S1x50x50 .f32) (i : Fin 50) (k : Fin 50) (h : 49 + 0 < 53) :
    feats x (ix2 i (spot (m := 49) 0 h k)) = x (ix3 0 i k) := by
  unfold feats spot
  pointwise [xMat]

/-- The last three are the means of the columns sorted first by score: `k` names them, each of greatest score among the
    columns not named before. -/
theorem feats_outer (x : Vec Ideal S1x50x50 .f32) (i : Fin 50) (k : Fin 3 → Fin 50)
    (h0 : First (fun j : Fin 50 => score x (ix2 i j)) (k 0))
    (h1 : First (fun j : Fin 50 => if j = k 0 then ⊥ else score x (ix2 i j)) (k 1))
    (h2 : First (fun j : Fin 50 => if j = k 1 then ⊥ else if j = k 0 then ⊥ else score x (ix2 i j)) (k 2))
    (r : Fin 3) (h : 2 + 50 < 53) :
    feats x (ix2 i (spot (m := 2) 50 h r)) = (∑ c, x (ix3 0 c (k r))) * ((1 / 50 : ℝ) : EReal) := by
  have b0 := best_apply (score x) i (k 0) h0
  have s1 : ∀ j : Fin 50, score₁ x (ix2 i j) = if j = k 0 then ⊥ else score x (ix2 i j) := strike_apply _ _ i (k 0) b0
  have b1 := best_apply (score₁ x) i (k 1) (by simpa only [s1] using h1)
  have s2 : ∀ j : Fin 50, score₂ x (ix2 i j) = if j = k 1 then ⊥ else if j = k 0 then ⊥ else score x (ix2 i j) := fun j => by
    rw [← s1]; exact strike_apply _ _ i (k 1) b1 j
  have b2 := best_apply (score₂ x) i (k 2) (by simpa only [s2] using h2)
  unfold feats spot
  pointwise
  match r with
  | ⟨0, _⟩ => exact pick_apply x _ i (k 0) b0
  | ⟨1, _⟩ => exact pick_apply x _ i (k 1) b1
  | ⟨2, _⟩ => exact pick_apply x _ i (k 2) b2

end Cert.KernelIdeal.Body
-- ==== Proof.Gather.lean ====
module

public import Idealize.ShloMosaic.Lib.ValueIdxCore
public import Idealize.ShloMosaic.Lib.Pointwise

/-! Gathering whole rows of a matrix: the result's last axis runs along the row the index names. -/

@[expose] public section

namespace Cert.Gather

open Idealize.ShloMosaic

variable {α : Type}

/-- Rows gathered by a matrix of indices. -/
abbrev rowsDims (N C M R : Nat)
    (wf : GatherDims.WF ⟨2, ![N, C]⟩ ⟨3, ![M, R, 1]⟩ ⟨3, ![M, R, C]⟩ [2] [0] [] [0] [] 2 ![1, C]) :
    GatherDims ⟨2, ![N, C]⟩ ⟨3, ![M, R, 1]⟩ ⟨3, ![M, R, C]⟩ where
  offsetDims := [2]
  collapsedSliceDims := [0]
  operandBatchingDims := []
  startIndicesBatchingDims := []
  startIndexMap := [0]
  indexVectorDim := 2
  sliceSizes := ![1, C]
  wf := wf

/-- Rows gathered by a list of indices. -/
abbrev listDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry `(a, b, c)` of the rows gathered is entry `c` of the row the index at `(a, b)` names. -/
theorem rows_apply {N C M R w : Nat}
    (wf : GatherDims.WF ⟨2, ![N, C]⟩ ⟨3, ![M, R, 1]⟩ ⟨3, ![M, R, C]⟩ [2] [0] [] [0] [] 2 ![1, C])
    (x : (⟨2, ![N, C]⟩ : Shape).Idx → α) (idx : IVec ⟨3, ![M, R, 1]⟩ w) (a : Fin M) (b : Fin R) (c : Fin C) (k : Fin N)
    (hk : (idx (ix3 a b 0)).toInt = k.val) :
    Host.gather (rowsDims N C M R wf) x idx (ix3 a b c) = x (ix2 k c) := by
  unfold Host.gather
  congr 1
  funext e
  refine Fin.ext ?_
  show (rowsDims N C M R wf).start (ix3 a b c) idx e + (rowsDims N C M R wf).batchCoord (ix3 a b c) e
    + (rowsDims N C M R wf).offCoord (ix3 a b c) e = _
  rw [GatherDims.batchCoord_eq_zero _ _ _ List.not_mem_nil]
  rcases (by decide : ∀ e : Fin 2, e = 0 ∨ e = 1) e with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C M R wf).startIndexMap from List.mem_singleton.mpr rfl)]
    have hsi : (rowsDims N C M R wf).siIdx (ix3 a b c) ⟨List.idxOf (0 : Fin 2) (rowsDims N C M R wf).startIndexMap,
        List.idxOf_lt_length_iff.2 (List.mem_singleton.mpr rfl)⟩ = ix3 a b 0 := by
      funext d; refine Fin.ext ?_
      match d with
      | ⟨0, _⟩ => rfl
      | ⟨1, _⟩ => rfl
      | ⟨2, _⟩ => rfl
    rw [hsi, hk]
    show min k.val (N - 1) = k.val
    have := k.isLt
    omega
  · unfold GatherDims.start
    rw [dif_neg (show (1 : Fin 2) ∉ (rowsDims N C M R wf).startIndexMap from fun h => Nat.one_ne_zero (congrArg Fin.val (List.mem_singleton.mp h)))]
    show 0 + 0 + _ = c.val
    rw [Nat.zero_add]
    rfl

/-- Entry `(a, c)` of the rows gathered is entry `c` of the row the index at `a` names. -/
theorem list_apply {N C M w : Nat}
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (a : Fin M) (c : Fin C) (k : Fin N)
    (hk : (idx (ix2 a 0)).toInt = k.val) :
    Host.gather (listDims N C M wf) x idx (ix2 a c) = x (ix2 k c) := by
  unfold Host.gather
  congr 1
  funext e
  refine Fin.ext ?_
  show (listDims N C M wf).start (ix2 a c) idx e + (listDims N C M wf).batchCoord (ix2 a c) e
    + (listDims N C M wf).offCoord (ix2 a c) e = _
  rw [GatherDims.batchCoord_eq_zero _ _ _ List.not_mem_nil]
  rcases (by decide : ∀ e : Fin 2, e = 0 ∨ e = 1) e with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (listDims N C M wf).startIndexMap from List.mem_singleton.mpr rfl)]
    have hsi : (listDims N C M wf).siIdx (ix2 a c) ⟨List.idxOf (0 : Fin 2) (listDims N C M wf).startIndexMap,
        List.idxOf_lt_length_iff.2 (List.mem_singleton.mpr rfl)⟩ = ix2 a 0 := by
      funext d; refine Fin.ext ?_
      match d with
      | ⟨0, _⟩ => rfl
      | ⟨1, _⟩ => rfl
    rw [hsi, hk]
    show min k.val (N - 1) = k.val
    have := k.isLt
    omega
  · unfold GatherDims.start
    rw [dif_neg (show (1 : Fin 2) ∉ (listDims N C M wf).startIndexMap from fun h => Nat.one_ne_zero (congrArg Fin.val (List.mem_singleton.mp h)))]
    show 0 + 0 + _ = c.val
    rw [Nat.zero_add]
    rfl

end Cert.Gather
-- ==== Proof.RefWords.lean ====
module

public import proofs.«01_k».proof.Proof.TableAt
public import proofs.«01_k».proof.Proof.Gather

/-! The alignment as the reference writes it: rows gathered at two indices and weighed. -/

@[expose] public section

noncomputable section

namespace Cert.Spec

open Idealize.ShloMosaic Cert.KernelIdeal.Body

/-- A small count's word reads back as the count. -/
theorem toInt_small (k : Nat) (hk : k < 100000) : (BitVec.ofNat 32 k).toInt = (k : Int) := by
  have hn : (BitVec.ofNat 32 k).toNat = k := by rw [BitVec.toNat_ofNat, Nat.mod_eq_of_lt (by omega)]
  rw [BitVec.toInt_eq_toNat_of_lt (by rw [hn]; omega), hn]

/-- The reference's gather index: batch times stride plus column, moved up where negative, is that number. -/
theorem gather_word (b s i : Nat) (hb : b < 4) (hs : s < 1000) (hi : i < 1000) (x : BitVec 32) :
    (Scalar.select (IntOp.cmpi .slt (IntOp.addi (IntOp.muli (BitVec.ofNat 32 b) (BitVec.ofNat 32 s)) (BitVec.ofNat 32 i)) 0#32) x
      (IntOp.addi (IntOp.muli (BitVec.ofNat 32 b) (BitVec.ofNat 32 s)) (BitVec.ofNat 32 i))).toInt = ((b * s + i : Nat) : Int) := by
  have hbs : b * s < 4000 := by nlinarith
  have hw : IntOp.addi (IntOp.muli (BitVec.ofNat 32 b) (BitVec.ofNat 32 s)) (BitVec.ofNat 32 i) = BitVec.ofNat 32 (b * s + i) := by
    unfold IntOp.addi IntOp.muli
    rw [← BitVec.ofNat_mul, ← BitVec.ofNat_add]
  have ht : (BitVec.ofNat 32 (b * s + i)).toInt = ((b * s + i : Nat) : Int) := toInt_small _ (by omega)
  have hc : IntOp.cmpi .slt (BitVec.ofNat 32 (b * s + i)) 0#32 = 0#1 := by
    unfold IntOp.cmpi
    simp only [BitVec.slt_eq_decide, ht]
    rw [decide_eq_false (by show ¬ ((b * s + i : Nat) : Int) < 0; omega)]; rfl
  rw [hw, hc]
  exact ht

/-- The next column computed in words. -/
theorem above_word (m i : Nat) (hm : m < 1000) (hi : i < 1000) :
    IntOp.minsi (IntOp.addi (BitVec.ofNat 32 i) 1#32) (BitVec.ofNat 32 m) = BitVec.ofNat 32 (min (i + 1) m) := by
  have hw : IntOp.addi (BitVec.ofNat 32 i) 1#32 = BitVec.ofNat 32 (i + 1) := by
    unfold IntOp.addi; rw [show (1#32) = BitVec.ofNat 32 1 from rfl, ← BitVec.ofNat_add]
  rw [hw]
  unfold IntOp.minsi
  simp only [BitVec.slt_eq_decide, toInt_small (i + 1) (by omega), toInt_small m (by omega), decide_eq_true_eq]
  split
  · rw [min_eq_left (by omega)]
  · rw [min_eq_right (by omega)]

/-- The reference clamps with the operands the other way round. -/
theorem clip_swap (m : Nat) (p : EReal) : min ((m : ℝ) : EReal) (max 0 p) = clip m p := by
  unfold clip; rw [min_comm, max_comm]

/-- The word of the column below. -/
theorem below_word (m : Nat) (hm : m < 999) (p : EReal) :
    Ideal.fptosi 32 (Ideal.liftRound Int.floor (min ((m : ℝ) : EReal) (max 0 p))) = BitVec.ofNat 32 (below m p).val := by
  rw [clip_swap, floor_clip, fptosi_nat _ (by omega)]

/-- The distance as the reference computes it. -/
theorem away_word (m : Nat) (hm : m < 999) (p : EReal) :
    min ((m : ℝ) : EReal) (max 0 p)
      - (((Ideal.fptosi 32 (Ideal.liftRound Int.floor (min ((m : ℝ) : EReal) (max 0 p)))).toInt : ℝ) : EReal) = away m p := by
  rw [below_word m hm, clip_swap, toInt_small _ (by omega)]
  rfl

/-- Two rows weighed, zero outside, is the row read at the position. -/
theorem ref_lerp {m : Nat} (hm : m < 999) (f : Fin (m + 1) → EReal) (p flo fhi : EReal) (hlo : flo = f (below m p))
    (hhi : fhi = f (above m p)) :
    Scalar.select (IntOp.andi (BitVec.ofBool (decide (((-1 : ℝ) : EReal) ≤ p))) (BitVec.ofBool (decide (p ≤ (((m : ℝ) + 1 : ℝ) : EReal)))))
      (flo * (1 - (min ((m : ℝ) : EReal) (max 0 p)
          - (((Ideal.fptosi 32 (Ideal.liftRound Int.floor (min ((m : ℝ) : EReal) (max 0 p)))).toInt : ℝ) : EReal)))
        + fhi * (min ((m : ℝ) : EReal) (max 0 p)
          - (((Ideal.fptosi 32 (Ideal.liftRound Int.floor (min ((m : ℝ) : EReal) (max 0 p)))).toInt : ℝ) : EReal))) 0 = lerp f p := by
  rw [away_word m hm, inside_mask, hlo, hhi]
  rfl

end Cert.Spec
-- ==== Proof.RefInner.lean ====
module

public import proofs.«01_k».proof.Proof.RefWords
public import proofs.«01_k».proof.Proof.Gen.ReferenceIdeal.Read

/-! The reference's first alignment, read at an index. -/

@[expose] public section

noncomputable section

namespace Cert.ReferenceIdeal.Read

open Idealize.ShloMosaic Idealize.ShloMosaic.TcCoe
open Cert.ReferenceIdeal Cert.ReferenceIdeal.Gen Cert.Spec

/-- The position anchor `n`'s sample `r` reads at. -/
abbrev pos12 (x2 : Vec Ideal S10000x3 .f32) (n : Fin 10000) (r : Fin 12) : EReal :=
  posn (x2 (ix2 n 1)) (x2 (ix2 n 2)) (1 / 12) ((r.val : ℝ) + 1 / 2)

/-- A count as a number plus one half. -/
theorem half_step (k : Nat) (hk : k < 1000) : (FloatOps.sitofp FTy.f32 (BitVec.ofNat 32 k) : Ideal .f32) + Ideal.ofBits .f32 0x3F000000#32
    = (((k : ℝ) + 1 / 2 : ℝ) : EReal) := by
  show (((BitVec.ofNat 32 k).toInt : ℝ) : EReal) + _ = _
  rw [toInt_small k (by omega), Cert.KernelIdeal.Body.litHalf, ← EReal.coe_add]
  simp

/-- The reference's position of the first alignment. -/
theorem pos_inner (x2 : Vec Ideal S10000x3 .f32) (n : Fin 10000) (r : Fin 12) : val_main_v22 (F := Ideal) x2 (ix2 n r) = pos12 x2 n r := by
  pointwise [val_main_v3, val_main_v4, val_main_v5, val_main_v6, val_main_v7, val_main_cst, val_main_v8, val_main_v9, val_main_cst_0,
    val_main_v10, val_main_v11, val_main_v12, val_main_cst_1, val_main_v13, val_main_v14, val_main_v15, val_main_v16, val_main_v17,
    val_main_v18, val_main_v19, val_main_v20, val_main_v21, val_main_v22]
  rw [half_step _ (by omega), Cert.KernelIdeal.Body.lit12, Ideal.div_coe (by norm_num)]
  rfl

/-- That position clamped between the first column and the last. -/
theorem clip_inner (x2 : Vec Ideal S10000x3 .f32) (n : Fin 10000) (r : Fin 12) :
    val_main_v28 (F := Ideal) x2 (ix2 n r) = min (((49 : Nat) : ℝ) : EReal) (max 0 (pos12 x2 n r)) := by
  have h49 : val_main_cst_5 (F := Ideal) ix0 = (((49 : Nat) : ℝ) : EReal) := Cert.KernelIdeal.Body.lit49.trans (by norm_num)
  pointwise [val_main_call0_v0, val_main_call0_v1, val_main_call0_v2, val_main_call0_v3, val_main_call0_v4, val_main_v28]
  rw [pos_inner, id, id, h49]
  congr 2
  pointwise [val_main_cst_4]

/-- The table's rows are the columns of the batches' matrices. -/
theorem rows_inner (x0 : Vec Ideal S4x50x50 .f32) (b : Fin 4) (t c : Fin 50) :
    val_main_v38 (F := Ideal) x0 (ix2 (⟨b.val * 50 + t.val, by omega⟩ : Fin 200) c) = x0 (ix3 b c t) := by
  pointwise [val_main_v37, val_main_v38]

/-- The two gather indices of sample `r` of anchor `n` of batch `b`. -/
theorem index_below_inner (x2 : Vec Ideal S10000x3 .f32) (n : Fin 10000) (b : Fin 4) (hb : x2 (ix2 n 0) = ((b.val : ℝ) : EReal)) (r : Fin 12) :
    (val_main_v49 (F := Ideal) x2 (ix3 n r 0)).toInt = ((b.val * 50 + (below 49 (pos12 x2 n r)).val : Nat) : Int) := by
  pointwise [val_main_v0, val_main_v1, val_main_v2, val_main_v39, val_main_v40, val_main_v41, val_main_v42, val_main_v43, val_main_v44,
    val_main_v45, val_main_v46, val_main_v47, val_main_v48, val_main_v49, val_main_v30, val_main_v29]
  rw [clip_inner, hb]
  change (Scalar.select (IntOp.cmpi .slt (IntOp.addi (IntOp.muli (Ideal.fptosi 32 _) 50#32) (Ideal.fptosi 32 _)) 0#32) _
    (IntOp.addi (IntOp.muli (Ideal.fptosi 32 _) 50#32) (Ideal.fptosi 32 _))).toInt = _
  rw [below_word 49 (by omega), fptosi_nat b.val (by omega)]
  exact gather_word b.val 50 _ b.isLt (by omega) (by omega) _

/-- The row the reference gathers for the column above. -/
theorem index_above_inner (x2 : Vec Ideal S10000x3 .f32) (n : Fin 10000) (b : Fin 4) (hb : x2 (ix2 n 0) = ((b.val : ℝ) : EReal)) (r : Fin 12) :
    (val_main_v61 (F := Ideal) x2 (ix3 n r 0)).toInt = ((b.val * 50 + (above 49 (pos12 x2 n r)).val : Nat) : Int) := by
  pointwise [val_main_v0, val_main_v1, val_main_v2, val_main_v51, val_main_v52, val_main_v53, val_main_v54, val_main_v55, val_main_v56,
    val_main_v57, val_main_v58, val_main_v59, val_main_v60, val_main_v61, val_main_v30, val_main_v29, val_main_v31, val_main_v32,
    val_main_v33, val_main_v34]
  rw [clip_inner, hb]
  change (Scalar.select (IntOp.cmpi .slt (IntOp.addi (IntOp.muli (Ideal.fptosi 32 _) 50#32)
      (IntOp.minsi (IntOp.addi (Ideal.fptosi 32 _) 1#32) 49#32)) 0#32) _
    (IntOp.addi (IntOp.muli (Ideal.fptosi 32 _) 50#32) (IntOp.minsi (IntOp.addi (Ideal.fptosi 32 _) 1#32) 49#32))).toInt = _
  rw [below_word 49 (by omega), fptosi_nat b.val (by omega), above_word 49 _ (by omega) (by omega)]
  exact gather_word b.val 50 _ b.isLt (by omega) (by omega) _

/-- The first alignment at an index: the matrix's row read at the position. -/
theorem align_inner (x0 : Vec Ideal S4x50x50 .f32) (x2 : Vec Ideal S10000x3 .f32) (n : Fin 10000) (b : Fin 4)
    (hb : x2 (ix2 n 0) = ((b.val : ℝ) : EReal)) (r : Fin 12) (c : Fin 50) :
    val_main_v73 (F := Ideal) x0 x2 (ix3 n r c) = lerp (m := 49) (fun t => x0 (ix3 b c t)) (pos12 x2 n r) := by
  have hlo : val_main_v50 (F := Ideal) x0 x2 (ix3 n r c) = x0 (ix3 b c (below 49 (pos12 x2 n r))) :=
    (Cert.Gather.rows_apply _ _ _ n r c _ (index_below_inner x2 n b hb r)).trans (rows_inner x0 b _ c)
  have hhi : val_main_v62 (F := Ideal) x0 x2 (ix3 n r c) = x0 (ix3 b c (above 49 (pos12 x2 n r))) :=
    (Cert.Gather.rows_apply _ _ _ n r c _ (index_above_inner x2 n b hb r)).trans (rows_inner x0 b _ c)
  rw [← ref_lerp (by omega) (fun t => x0 (ix3 b c t)) (pos12 x2 n r) _ _ hlo hhi]
  have h50 : val_main_cst_3 (F := Ideal) ix0 = ((((49 : Nat) : ℝ) + 1 : ℝ) : EReal) := Cert.KernelIdeal.Body.lit50.trans (by norm_num)
  have hn1 : val_main_cst_2 (F := Ideal) ix0 = ((-1 : ℝ) : EReal) := Cert.KernelIdeal.Body.litNeg1
  have h0 : val_main_cst_14 (F := Ideal) ix0 = 0 := by pointwise [val_main_cst_14]
  pointwise [val_main_v23, val_main_v24, val_main_v25, val_main_v26, val_main_v27, val_main_v29, val_main_v30, val_main_v35, val_main_v36,
    val_main_v63, val_main_v64, val_main_v65, val_main_v66, val_main_v67, val_main_v68, val_main_v69, val_main_v70, val_main_v71,
    val_main_v72, val_main_v73, val_main_call1_v0, val_main_call1_v1, val_main_call1_v2, val_main_cst_13]
  rw [clip_inner, pos_inner, h50, hn1, id, h0]
  rfl

end Cert.ReferenceIdeal.Read
-- ==== Proof.RefMeans.lean ====
module

public import proofs.«01_k».proof.Proof.RefWords
public import proofs.«01_k».proof.Proof.Order
public import proofs.«01_k».proof.Proof.Gen.ReferenceIdeal.Read

/-! The reference's neighbour means, read at an index: the distances it sorts by, the places sorted first, and the means of
    those columns. -/

@[expose] public section

noncomputable section

namespace Cert.ReferenceIdeal.Read

open Idealize.ShloMosaic Idealize.ShloMosaic.TcCoe
open Cert.ReferenceIdeal Cert.ReferenceIdeal.Gen Cert.Spec Cert.Order

/-- The columns of batch `b` in the order row `i` ranks them. -/
abbrev rank (x0 : Vec Ideal S4x50x50 .f32) (b : Fin 4) (i : Fin 50) : Fin 50 → Fin 50 :=
  sortedFrom (fun k k' => decide (val_main_v88 (F := Ideal) x0 (ix3 b i k') < val_main_v88 (F := Ideal) x0 (ix3 b i k)))

/-- Sorting along the last axis with the places carried: entry `k` of a row is the place sorted there. -/
theorem sorted_places {A B N : Nat} (x : (⟨3, ![A, B, N]⟩ : Shape).Idx → EReal) (y : IVec ⟨3, ![A, B, N]⟩ 32)
    (hy : ∀ a b k, y (ix3 a b k) = BitVec.ofNat 32 k.val) (a : Fin A) (b : Fin B) (k : Fin N) :
    (Host.sort2 ⟨3, ![A, B, N]⟩ 2 (fun l r => (FloatOps.cmpfTotal .gt : Ideal .f32 → Ideal .f32 → BitVec 1) l.1 r.1) x y).2 (ix3 a b k)
      = BitVec.ofNat 32 (sortedFrom (fun i j => decide (x (ix3 a b j) < x (ix3 a b i))) k).val := by
  have hal : ∀ q : Fin N, (ix3 a b k).along (2 : Fin 3) q = ix3 a b q := fun q => by
    funext e
    match e with
    | ⟨0, _⟩ => rfl
    | ⟨1, _⟩ => rfl
    | ⟨2, _⟩ => rfl
  have hcmp : ∀ u v : EReal, ((FloatOps.cmpfTotal .gt : Ideal .f32 → Ideal .f32 → BitVec 1) u v == 1#1) = decide (v < u) := fun u v => by
    show (BitVec.ofBool (decide (v < u)) == 1#1) = _
    cases decide (v < u) <;> rfl
  unfold Host.sort2
  rw [dif_pos (show 2 < 3 by omega)]
  have hf : (fun i j : Fin N => (FloatOps.cmpfTotal .gt : Ideal .f32 → Ideal .f32 → BitVec 1) (x ((ix3 a b k).along (2 : Fin 3) i))
      (x ((ix3 a b k).along (2 : Fin 3) j)) == 1#1) = fun i j => decide (x (ix3 a b j) < x (ix3 a b i)) := by
    funext i j
    rw [← hal i, ← hal j]
    exact hcmp _ _
  exact (congrArg y (hal _)).trans ((hy a b _).trans (congrArg (fun f => BitVec.ofNat 32 (sortedFrom f k).val) hf))

/-- The index the reference takes at rank `r` is the place ranked there. -/
theorem indices_apply (x0 : Vec Ideal S4x50x50 .f32) (b : Fin 4) (i : Fin 50) (r : Fin 3) :
    val_main_indices (F := Ideal) x0 (ix3 b i r) = BitVec.ofNat 32 (rank x0 b i ⟨r.val, by omega⟩).val := by
  unfold val_main_indices Host.topK
  dsimp only
  rw [extractStridedSlice_apply (fun _ => 0) _ sliceFits_S4x50x50_S4x50x3 (ix3 b i r) (ix3 b i (⟨r.val, by omega⟩ : Fin 50)) (fun a => match a with
    | ⟨0, _⟩ => (Nat.zero_add _).symm
    | ⟨1, _⟩ => (Nat.zero_add _).symm
    | ⟨2, _⟩ => (Nat.zero_add _).symm)]
  exact sorted_places _ _ (fun a b k => by rw [dif_pos (show 2 < 3 by omega)]; rfl) b i ⟨r.val, by omega⟩

/-- The word's value is minus two. -/
theorem litNeg2 : (Ideal.ofBits .f32 0xC0000000#32 : EReal) = ((-2 : ℝ) : EReal) := by
  simp [Ideal.ofBits, Ideal.ieee, -EReal.coe_mul]; norm_num

/-- The sum of a column's cubes. -/
theorem cubes_apply (x0 : Vec Ideal S4x50x50 .f32) (b : Fin 4) (j : Fin 50) :
    val_main_v81 (F := Ideal) x0 (ix2 b j) = ∑ c : Fin 50, x0 (ix3 b c j) * x0 (ix3 b c j) * x0 (ix3 b c j) := by
  have h0 : val_main_cst_16 (F := Ideal) (Shape.Idx.first h_S_) = 0 := Ideal.ofBits_zero_f32
  rw [val_main_v81_apply, h0, zero_add]
  refine Finset.sum_congr rfl fun c _ => ?_
  have : idx_main_v81 (ix2 b j) c = ix3 b c j := by
    funext e
    match e with
    | ⟨0, _⟩ => rfl
    | ⟨1, _⟩ => rfl
    | ⟨2, _⟩ => rfl
  rw [this]
  rfl

/-- The product of two columns. -/
theorem dots_apply (x0 : Vec Ideal S4x50x50 .f32) (b : Fin 4) (i j : Fin 50) :
    val_main_v76 (F := Ideal) x0 (ix3 b i j) = ∑ c : Fin 50, x0 (ix3 b c i) * x0 (ix3 b c j) := by
  rw [val_main_v76_apply]
  refine Finset.sum_congr rfl fun c _ => ?_
  have hl : idx_main_v75 (lidx_main_v76 (ix3 b i j) c) = ix3 b c i := by
    funext e
    match e with
    | ⟨0, _⟩ => rfl
    | ⟨1, _⟩ => rfl
    | ⟨2, _⟩ => rfl
  have hr : ridx_main_v76 (ix3 b i j) c = ix3 b c j := by
    funext e
    match e with
    | ⟨0, _⟩ => rfl
    | ⟨1, _⟩ => rfl
    | ⟨2, _⟩ => rfl
  rw [val_main_v75_apply, hl, hr]

/-- The distance sorted by. -/
theorem dist_apply (x0 : Vec Ideal S4x50x50 .f32) (b : Fin 4) (i j : Fin 50) : val_main_v88 (F := Ideal) x0 (ix3 b i j)
    = -(∑ c : Fin 50, x0 (ix3 b c j) * x0 (ix3 b c j) * x0 (ix3 b c j)) - ((-2 : ℝ) : EReal) * ∑ c : Fin 50, x0 (ix3 b c i) * x0 (ix3 b c j)
      - ∑ c : Fin 50, x0 (ix3 b c i) * x0 (ix3 b c i) * x0 (ix3 b c i) := by
  pointwise [val_main_v77, val_main_v78, val_main_v82, val_main_v83, val_main_v84, val_main_v85, val_main_v86, val_main_v87, val_main_v88]
  rw [cubes_apply, cubes_apply, dots_apply, show val_main_cst_15 (F := Ideal) ix0 = ((-2 : ℝ) : EReal) from litNeg2]

/-- The gather index of the mean ranked `r`. -/
theorem index_means (x0 : Vec Ideal S4x50x50 .f32) (b : Fin 4) (i : Fin 50) (r : Fin 3) :
    (val_main_v103 (F := Ideal) x0 (ix2 (⟨b.val * 150 + i.val * 3 + r.val, by omega⟩ : Fin 600) 0)).toInt
      = ((b.val * 50 + (rank x0 b i ⟨r.val, by omega⟩).val : Nat) : Int) := by
  pointwise [val_main_v89,val_main_v90,val_main_v91,val_main_v92,val_main_v93,val_main_v94,val_main_v95,val_main_v98,val_main_v99,val_main_v100,val_main_v101,val_main_v102,val_main_v103]
  have hc : ∀ u v : BitVec 32, IntOp.addi u v = IntOp.addi v u := fun u v => BitVec.add_comm u v
  rw [indices_apply, hc (BitVec.ofNat 32 (rank x0 b i ⟨r.val, by omega⟩).val)]
  exact gather_word b.val 50 _ b.isLt (by omega) (by omega) _

/-- The mean ranked `r` on row `i`. -/
theorem means_apply (x0 : Vec Ideal S4x50x50 .f32) (b : Fin 4) (i : Fin 50) (r : Fin 3) : val_main_v108 (F := Ideal) x0 (ix3 b i r)
    = (∑ c : Fin 50, x0 (ix3 b c (rank x0 b i ⟨r.val, by omega⟩))) * ((1 / 50 : ℝ) : EReal) := by
  have h0 : val_main_cst_20 (F := Ideal) (Shape.Idx.first h_S_) = 0 := Ideal.ofBits_zero_f32
  pointwise [val_main_v108, val_main_v107, val_main_cst_21]
  rw [val_main_v106_apply, Cert.KernelIdeal.Body.lit50, Ideal.div_coe (by norm_num), h0, zero_add]
  congr 1
  refine Finset.sum_congr rfl fun c _ => ?_
  have : idx_main_v106 (ix3 b i r) c = ix4 b i r c := by
    funext e
    match e with
    | ⟨0, _⟩ => rfl
    | ⟨1, _⟩ => rfl
    | ⟨2, _⟩ => rfl
    | ⟨3, _⟩ => rfl
  rw [this]
  pointwise [val_main_v105]
  refine (Cert.Gather.list_apply _ _ _ _ _ (⟨b.val * 50 + (rank x0 b i ⟨r.val, by omega⟩).val, by omega⟩ : Fin 200) (index_means x0 b i r)).trans ?_
  pointwise [val_main_v96, val_main_v97]

/-- The means as the rows of the second table. -/
theorem table_outer (x0 : Vec Ideal S4x50x50 .f32) (b : Fin 4) (k : Fin 3) (c : Fin 50) :
    val_main_v147 (F := Ideal) x0 (ix2 (⟨b.val * 3 + k.val, by omega⟩ : Fin 12) c) = val_main_v108 (F := Ideal) x0 (ix3 b c k) := by
  pointwise [val_main_v146,val_main_v147]

end Cert.ReferenceIdeal.Read
-- ==== Proof.RefOuter.lean ====
module

public import proofs.«01_k».proof.Proof.RefInner
public import proofs.«01_k».proof.Proof.RefMeans

/-! The reference's second alignment, read at an index, and its result. -/

@[expose] public section

noncomputable section

namespace Cert.ReferenceIdeal.Read

open Idealize.ShloMosaic Idealize.ShloMosaic.TcCoe
open Cert.ReferenceIdeal Cert.ReferenceIdeal.Gen Cert.Spec

/-- The position anchor `n`'s sample `r` of the second alignment reads at. -/
abbrev pos16 (x2 : Vec Ideal S10000x3 .f32) (n : Fin 10000) (r : Fin 16) : EReal :=
  posn (x2 (ix2 n 1)) (x2 (ix2 n 2)) (1 / 16) ((r.val : ℝ) + 1 / 2)

/-- The word's value is sixteen. -/
theorem lit16' : (Ideal.ofBits .f32 0x41800000#32 : EReal) = ((16 : ℝ) : EReal) := by
  simp [Ideal.ofBits, Ideal.ieee, -EReal.coe_mul]; norm_num

/-- The reference's position of the second alignment. -/
theorem pos_outer (x2 : Vec Ideal S10000x3 .f32) (n : Fin 10000) (r : Fin 16) : val_main_v131 (F := Ideal) x2 (ix2 n r) = pos16 x2 n r := by
  pointwise [val_main_v112, val_main_v113, val_main_v114, val_main_v115, val_main_v116, val_main_cst_22, val_main_v117, val_main_v118,
    val_main_cst_23, val_main_v119, val_main_v120, val_main_v121, val_main_cst_24, val_main_v122, val_main_v123, val_main_v124,
    val_main_v125, val_main_v126, val_main_v127, val_main_v128, val_main_v129, val_main_v130, val_main_v131]
  rw [half_step _ (by omega), lit16', Ideal.div_coe (by norm_num)]
  rfl

/-- That position clamped between the first mean and the last. -/
theorem clip_outer (x2 : Vec Ideal S10000x3 .f32) (n : Fin 10000) (r : Fin 16) :
    val_main_v137 (F := Ideal) x2 (ix2 n r) = min (((2 : Nat) : ℝ) : EReal) (max 0 (pos16 x2 n r)) := by
  have h2 : val_main_cst_28 (F := Ideal) ix0 = (((2 : Nat) : ℝ) : EReal) := Cert.KernelIdeal.Body.lit2.trans (by norm_num)
  pointwise [val_main_call2_v0, val_main_call2_v1, val_main_call2_v2, val_main_call2_v3, val_main_call2_v4, val_main_v137]
  rw [pos_outer, id, id, h2]
  congr 2
  pointwise [val_main_cst_27]

/-- The two gather indices of sample `r` of anchor `n` of batch `b`. -/
theorem index_below_outer (x2 : Vec Ideal S10000x3 .f32) (n : Fin 10000) (b : Fin 4) (hb : x2 (ix2 n 0) = ((b.val : ℝ) : EReal)) (r : Fin 16) :
    (val_main_v158 (F := Ideal) x2 (ix3 n r 0)).toInt = ((b.val * 3 + (below 2 (pos16 x2 n r)).val : Nat) : Int) := by
  pointwise [val_main_v109, val_main_v110, val_main_v111, val_main_v148, val_main_v149, val_main_v150, val_main_v151, val_main_v152,
    val_main_v153, val_main_v154, val_main_v155, val_main_v156, val_main_v157, val_main_v158, val_main_v138, val_main_v139]
  rw [clip_outer, hb]
  change (Scalar.select (IntOp.cmpi .slt (IntOp.addi (IntOp.muli (Ideal.fptosi 32 _) 3#32) (Ideal.fptosi 32 _)) 0#32) _
    (IntOp.addi (IntOp.muli (Ideal.fptosi 32 _) 3#32) (Ideal.fptosi 32 _))).toInt = _
  rw [below_word 2 (by omega), fptosi_nat b.val (by omega)]
  exact gather_word b.val 3 _ b.isLt (by omega) (by omega) _

/-- The row the reference gathers for the mean above. -/
theorem index_above_outer (x2 : Vec Ideal S10000x3 .f32) (n : Fin 10000) (b : Fin 4) (hb : x2 (ix2 n 0) = ((b.val : ℝ) : EReal)) (r : Fin 16) :
    (val_main_v170 (F := Ideal) x2 (ix3 n r 0)).toInt = ((b.val * 3 + (above 2 (pos16 x2 n r)).val : Nat) : Int) := by
  pointwise [val_main_v109, val_main_v110, val_main_v111, val_main_v160, val_main_v161, val_main_v162, val_main_v163, val_main_v164,
    val_main_v165, val_main_v166, val_main_v167, val_main_v168, val_main_v169, val_main_v170, val_main_v138, val_main_v139,
    val_main_v140, val_main_v141, val_main_v142, val_main_v143]
  rw [clip_outer, hb]
  change (Scalar.select (IntOp.cmpi .slt (IntOp.addi (IntOp.muli (Ideal.fptosi 32 _) 3#32)
      (IntOp.minsi (IntOp.addi (Ideal.fptosi 32 _) 1#32) 2#32)) 0#32) _
    (IntOp.addi (IntOp.muli (Ideal.fptosi 32 _) 3#32) (IntOp.minsi (IntOp.addi (Ideal.fptosi 32 _) 1#32) 2#32))).toInt = _
  rw [below_word 2 (by omega), fptosi_nat b.val (by omega), above_word 2 _ (by omega) (by omega)]
  exact gather_word b.val 3 _ b.isLt (by omega) (by omega) _

/-- The second alignment at an index: the row's three means read at the position. -/
theorem align_outer (x0 : Vec Ideal S4x50x50 .f32) (x2 : Vec Ideal S10000x3 .f32) (n : Fin 10000) (b : Fin 4)
    (hb : x2 (ix2 n 0) = ((b.val : ℝ) : EReal)) (r : Fin 16) (c : Fin 50) :
    val_main_v182 (F := Ideal) x0 x2 (ix3 n r c)
      = lerp (m := 2) (fun t => (∑ e : Fin 50, x0 (ix3 b e (rank x0 b c ⟨t.val, by omega⟩))) * ((1 / 50 : ℝ) : EReal)) (pos16 x2 n r) := by
  have hlo : val_main_v159 (F := Ideal) x0 x2 (ix3 n r c) = _ :=
    (Cert.Gather.rows_apply _ _ _ n r c (⟨b.val * 3 + (below 2 (pos16 x2 n r)).val, by omega⟩ : Fin 12) (index_below_outer x2 n b hb r)).trans
      ((table_outer x0 b _ c).trans (means_apply x0 b c _))
  have hhi : val_main_v171 (F := Ideal) x0 x2 (ix3 n r c) = _ :=
    (Cert.Gather.rows_apply _ _ _ n r c (⟨b.val * 3 + (above 2 (pos16 x2 n r)).val, by omega⟩ : Fin 12) (index_above_outer x2 n b hb r)).trans
      ((table_outer x0 b _ c).trans (means_apply x0 b c _))
  rw [← ref_lerp (by omega) _ (pos16 x2 n r) _ _ hlo hhi]
  have h3 : val_main_cst_26 (F := Ideal) ix0 = ((((2 : Nat) : ℝ) + 1 : ℝ) : EReal) := Cert.KernelIdeal.Body.lit3.trans (by norm_num)
  have hn1 : val_main_cst_25 (F := Ideal) ix0 = ((-1 : ℝ) : EReal) := Cert.KernelIdeal.Body.litNeg1
  have h0 : val_main_cst_38 (F := Ideal) ix0 = 0 := by pointwise [val_main_cst_38]
  pointwise [val_main_v132, val_main_v133, val_main_v134, val_main_v135, val_main_v136, val_main_v138, val_main_v139, val_main_v144,
    val_main_v145, val_main_v172, val_main_cst_37, val_main_v173, val_main_v174, val_main_v175, val_main_v176, val_main_v177,
    val_main_v178, val_main_v179, val_main_v180, val_main_v181, val_main_v182, val_main_call3_v0, val_main_call3_v1, val_main_call3_v2]
  rw [clip_outer, pos_outer, h3, hn1, id, h0]
  rfl

/-- The two alignments side by side. -/
theorem joined_apply (x0 : Vec Ideal S4x50x50 .f32) (x2 : Vec Ideal S10000x3 .f32) (n : Fin 10000) (q : Fin 28) (c : Fin 50) :
    val_main_v184 (F := Ideal) x0 x2 (ix3 n c q) = if h : q.val < 12 then val_main_v73 (F := Ideal) x0 x2 (ix3 n ⟨q.val, h⟩ c)
      else val_main_v182 (F := Ideal) x0 x2 (ix3 n ⟨q.val - 12, by omega⟩ c) := by
  pointwise [val_main_v74, val_main_v183, val_main_v184]

/-- The result's entry: anchor row `n` is column `t`, start `d` of batch `b`. -/
theorem result_apply (x0 : Vec Ideal S4x50x50 .f32) (x2 : Vec Ideal S10000x3 .f32) (b : Fin 4) (e : Fin 1400) (d t : Fin 50)
    (n : Fin 10000) (hn : n.val = b.val * 2500 + t.val * 50 + d.val) :
    val_main_v186 (F := Ideal) x0 x2 (ix4 b e d t)
      = val_main_v184 (F := Ideal) x0 x2 (ix3 n (⟨e.val / 28, by omega⟩ : Fin 50) (⟨e.val % 28, by omega⟩ : Fin 28)) := by
  rw [val_main_v186_apply, val_main_v185_apply]
  congr 1
  funext a
  match a with
  | ⟨0, _⟩ =>
    refine Fin.ext ?_
    show (((b.val * 50 + t.val) * 50 + d.val) * 1400 + e.val) / 1400 = n.val
    omega
  | ⟨1, _⟩ =>
    refine Fin.ext ?_
    show (((b.val * 50 + t.val) * 50 + d.val) * 1400 + e.val) / 28 % 50 = e.val / 28
    omega
  | ⟨2, _⟩ =>
    refine Fin.ext ?_
    show (((b.val * 50 + t.val) * 50 + d.val) * 1400 + e.val) % 28 = e.val % 28
    omega

end Cert.ReferenceIdeal.Read
-- ==== Proof.Neighbours.lean ====
module

public import proofs.«01_k».proof.Proof.FeatsAt
public import proofs.«01_k».proof.Proof.RefOuter

/-! The kernel's scores and the reference's distances order a row's columns alike when the entries are real numbers. -/

@[expose] public section

noncomputable section

namespace Cert.Order

open Idealize.ShloMosaic

/-- A sum of real numbers is a real number. -/
theorem real_sum {n : Nat} (f : Fin n → EReal) (h : ∀ j, ∃ y : ℝ, f j = (y : EReal)) : ∃ y : ℝ, ∑ j, f j = (y : EReal) := by
  choose y hy using h
  refine ⟨∑ j, y j, ?_⟩
  simp only [hy]
  exact (map_sum (⟨⟨fun x : ℝ => (x : EReal), EReal.coe_zero⟩, EReal.coe_add⟩ : ℝ →+ EReal) y Finset.univ).symm

/-- A product of two real numbers is a real number. -/
theorem real_mul {a b : EReal} (ha : ∃ y : ℝ, a = (y : EReal)) (hb : ∃ y : ℝ, b = (y : EReal)) : ∃ y : ℝ, a * b = (y : EReal) := by
  obtain ⟨y, rfl⟩ := ha
  obtain ⟨z, rfl⟩ := hb
  exact ⟨y * z, (EReal.coe_mul y z).symm⟩

/-- Two lists of numbers ordered alike, neither with a bottom entry, stay so with the same places struck down. -/
theorem struck_alike {n : Nat} {f g : Fin n → EReal} (h : ∀ i j, f i < f j ↔ g i < g j) (hf : ∀ j, ⊥ < f j) (hg : ∀ j, ⊥ < g j)
    (p : Fin n → Prop) [DecidablePred p] (i j : Fin n) :
    (if p i then ⊥ else f i) < (if p j then ⊥ else f j) ↔ (if p i then ⊥ else g i) < (if p j then ⊥ else g j) := by
  by_cases hi : p i <;> by_cases hj : p j
  · simp only [if_pos hi, if_pos hj]
  · simp only [if_pos hi, if_neg hj]
    exact ⟨fun _ => hg j, fun _ => hf j⟩
  · simp only [if_neg hi, if_pos hj]
    exact ⟨fun c => absurd c not_lt_bot, fun c => absurd c not_lt_bot⟩
  · simp only [if_neg hi, if_neg hj]
    exact h i j

/-- The places sorted first, second and third are each of greatest entry once those before are struck down. -/
theorem first_three (f g : Fin 50 → EReal) (hf : ∀ j, ⊥ < f j) (hg : ∀ j, ⊥ < g j) (h : ∀ i j, f i < f j ↔ g i < g j)
    (k : Fin 50 → Fin 50) (hk : k = sortedFrom (fun i j => decide (f j < f i))) :
    First g (k 0) ∧ First (fun j => if j = k 0 then ⊥ else g j) (k 1)
      ∧ First (fun j => if j = k 1 then ⊥ else if j = k 0 then ⊥ else g j) (k 2) := by
  have inj : ∀ u v : Fin 50, k u = k v ↔ u = v := fun u v => by
    rw [hk]; exact (sortedFrom_injective _).eq_iff
  have f0 : First f (k 0) := by
    have := first_sorted f f hf 0 (fun j => (if_neg (Fin.not_lt_zero j)).symm)
    rwa [← hk] at this
  have f1 : First (fun j => if j = k 0 then ⊥ else f j) (k 1) := by
    have := first_sorted f (fun j => if j = k 0 then ⊥ else f j) hf 1 (fun j => by
      rw [← hk]
      refine if_congr ((inj j 0).trans ?_) rfl rfl
      rw [Fin.ext_iff, Fin.lt_def]
      show j.val = 0 ↔ j.val < 1
      omega)
    rwa [← hk] at this
  have f2 : First (fun j => if j = k 1 ∨ j = k 0 then ⊥ else f j) (k 2) := by
    have := first_sorted f (fun j => if j = k 1 ∨ j = k 0 then ⊥ else f j) hf 2 (fun j => by
      rw [← hk]
      refine if_congr ((or_congr (inj j 1) (inj j 0)).trans ?_) rfl rfl
      rw [Fin.ext_iff, Fin.ext_iff, Fin.lt_def]
      show j.val = 1 ∨ j.val = 0 ↔ j.val < 2
      omega)
    rwa [← hk] at this
  refine ⟨f0.congr h, f1.congr (struck_alike h hf hg _), ?_⟩
  have g2 : First (fun j => if j = k 1 ∨ j = k 0 then ⊥ else g j) (k 2) := f2.congr (struck_alike h hf hg _)
  have e : (fun j => if j = k 1 ∨ j = k 0 then ⊥ else g j) = fun j => if j = k 1 then ⊥ else if j = k 0 then ⊥ else g j := by
    funext j
    split_ifs <;> simp_all
  rwa [e] at g2

end Cert.Order

namespace Cert.Equation

open Idealize.ShloMosaic Idealize.ShloMosaic.TcCoe
open Cert.KernelIdeal.Body Cert.ReferenceIdeal.Read Cert.ReferenceIdeal.Gen Cert.Spec Cert.Order
open Cert.ReferenceIdeal (S4x50x50 S10000x3)

/-- The matrix of batch `b`. -/
def batch (x0 : Vec Ideal S4x50x50 .f32) (b : Fin 4) : Vec Ideal Cert.KernelIdeal.S1x50x50 .f32 := fun j => x0 (ix3 b (j 1) (j 2))

/-- Score and distance of a row are real numbers that differ by a number of the row. -/
theorem score_dist (x0 : Vec Ideal S4x50x50 .f32) (hx : ∀ j, ∃ y : ℝ, x0 j = (y : EReal)) (b : Fin 4) (i : Fin 50) :
    ∃ (s : Fin 50 → ℝ) (k : ℝ), (∀ j, score (batch x0 b) (ix2 i j) = (s j : EReal))
      ∧ ∀ j, val_main_v88 (F := Ideal) x0 (ix3 b i j) = ((s j - k : ℝ) : EReal) := by
  have hd : ∀ j : Fin 50, ∃ y : ℝ, ∑ c : Fin 50, x0 (ix3 b c i) * x0 (ix3 b c j) = (y : EReal) :=
    fun j => real_sum _ fun c => real_mul (hx _) (hx _)
  have hn : ∀ j : Fin 50, ∃ y : ℝ, ∑ c : Fin 50, x0 (ix3 b c j) * x0 (ix3 b c j) * x0 (ix3 b c j) = (y : EReal) :=
    fun j => real_sum _ fun c => real_mul (real_mul (hx _) (hx _)) (hx _)
  choose d hd using hd
  choose n hn using hn
  refine ⟨fun j => 2 * d j - n j, n i, fun j => ?_, fun j => ?_⟩
  · rw [score_apply]
    unfold batch
    exact (congrArg₂ (fun u v : EReal => ((2 : ℝ) : EReal) * u - v) (hd j) (hn j)).trans
      (by rw [← EReal.coe_mul, ← EReal.coe_sub])
  · rw [dist_apply, hd, hn, hn, ← EReal.coe_mul, ← EReal.coe_neg, ← EReal.coe_sub, ← EReal.coe_sub]
    congr 1
    ring

/-- The kernel's means of batch `b`, row `i`, are those of the columns the reference ranks first. -/
theorem feats_means (x0 : Vec Ideal S4x50x50 .f32) (hx : ∀ j, ∃ y : ℝ, x0 j = (y : EReal)) (b : Fin 4) (i : Fin 50) (r : Fin 3)
    (h : 2 + 50 < 53) :
    feats (batch x0 b) (ix2 i (spot (m := 2) 50 h r))
      = (∑ e : Fin 50, x0 (ix3 b e (rank x0 b i ⟨r.val, by omega⟩))) * ((1 / 50 : ℝ) : EReal) := by
  obtain ⟨s, k, hs, hd⟩ := score_dist x0 hx b i
  have hb : ∀ j : Fin 50, ⊥ < val_main_v88 (F := Ideal) x0 (ix3 b i j) := fun j => by rw [hd]; exact EReal.bot_lt_coe _
  have hb' : ∀ j : Fin 50, ⊥ < score (batch x0 b) (ix2 i j) := fun j => by rw [hs]; exact EReal.bot_lt_coe _
  have hc : ∀ u v : Fin 50, val_main_v88 (F := Ideal) x0 (ix3 b i u) < val_main_v88 (F := Ideal) x0 (ix3 b i v)
      ↔ score (batch x0 b) (ix2 i u) < score (batch x0 b) (ix2 i v) := fun u v => by
    rw [hd, hd, hs, hs, EReal.coe_lt_coe_iff, EReal.coe_lt_coe_iff, sub_lt_sub_iff_right]
  have key : ∀ k : Fin 50 → Fin 50, k = rank x0 b i → feats (batch x0 b) (ix2 i (spot (m := 2) 50 h r))
      = (∑ e : Fin 50, x0 (ix3 b e (k ⟨r.val, by omega⟩))) * ((1 / 50 : ℝ) : EReal) := fun k hk => by
    obtain ⟨g0, g1, g2⟩ := first_three (fun j => val_main_v88 (F := Ideal) x0 (ix3 b i j)) (fun j => score (batch x0 b) (ix2 i j)) hb hb' hc k hk
    exact feats_outer (batch x0 b) i (fun r => k ⟨r.val, by omega⟩) g0 g1 g2 r h
  exact key _ rfl

end Cert.Equation
-- ==== Proof.HostRows.lean ====
module

public import proofs.«01_k».proof.Proof.Region
public import Idealize.ShloMosaic.Lib.Pointwise

/-! The two rows of anchor ends the host lays out, read at a lane, and the result read at an index. -/

@[expose] public section

noncomputable section

namespace Cert.KernelIdeal.Body

open Idealize.ShloMosaic Idealize.ShloMosaic.TcCoe
open Cert.KernelIdeal Cert.KernelIdeal.Gen

variable (m : (ℓ : Loc nD τ sig) → Buf (Elt Ideal) ℓ)

/-- Lane `d * 50 + t` of the starts is the start of anchor `t * 50 + d`. -/
theorem stRow_apply (c : Dev nD) (d t : Fin 50) (a : Fin 2500) (ha : a.val = d.val * 50 + t.val) (n : Fin 10000) (hn : n.val = t.val * 50 + d.val) :
    stRow m c (ix2 0 a) = (m ((c : Thread nD τ).loc main_arg2) : Vec Ideal S10000x3 .f32) (ix2 n 1) := by
  unfold stRow
  show (V0 m c (Proc.devRef .tc main_v4) : Vec Ideal S1x2500 .f32) (ix2 0 a) = _
  unfold V0
  simp only [List.flatten_cons, List.flatten_nil, List.append_nil]
  unfold hostOps0
  after_results
  show shapeCast S1x2500 (transpose S50x50 [1, 0] (shapeCast S50x50 (shapeCast S2500 (extractStridedSlice S2500x1 ![0, 1]
    (m (c, Proc.tc.devRef main_arg2) : Vec Ideal S10000x3 .f32) slices_S10000x3_S2500x1_0_1) shapeCasts_S2500x1_S2500) shapeCasts_S2500_S50x50)
    transposes_S50x50_S50x50_1_0) shapeCasts_S50x50_S1x2500 (ix2 0 a) = (m (c, Proc.tc.devRef main_arg2) : Vec Ideal S10000x3 .f32) (ix2 n 1)
  generalize (m (c, Proc.tc.devRef main_arg2) : Vec Ideal S10000x3 .f32) = x
  pointwise
  exact congrArg (fun k : Fin 10000 => x (ix2 k 1)) (Fin.ext (by show a.val % 50 * 50 + a.val / 50 = n.val; omega))

/-- Lane `d * 50 + t` of the ends is the end of anchor `t * 50 + d`. -/
theorem enRow_apply (c : Dev nD) (d t : Fin 50) (a : Fin 2500) (ha : a.val = d.val * 50 + t.val) (n : Fin 10000) (hn : n.val = t.val * 50 + d.val) :
    enRow m c (ix2 0 a) = (m ((c : Thread nD τ).loc main_arg2) : Vec Ideal S10000x3 .f32) (ix2 n 2) := by
  unfold enRow
  show (V0 m c (Proc.devRef .tc main_v9) : Vec Ideal S1x2500 .f32) (ix2 0 a) = _
  unfold V0
  simp only [List.flatten_cons, List.flatten_nil, List.append_nil]
  unfold hostOps0
  after_results
  show shapeCast S1x2500 (transpose S50x50 [1, 0] (shapeCast S50x50 (shapeCast S2500 (extractStridedSlice S2500x1 ![0, 2]
    (m (c, Proc.tc.devRef main_arg2) : Vec Ideal S10000x3 .f32) slices_S10000x3_S2500x1_0_2) shapeCasts_S2500x1_S2500) shapeCasts_S2500_S50x50)
    transposes_S50x50_S50x50_1_0) shapeCasts_S50x50_S1x2500 (ix2 0 a) = (m (c, Proc.tc.devRef main_arg2) : Vec Ideal S10000x3 .f32) (ix2 n 2)
  generalize (m (c, Proc.tc.devRef main_arg2) : Vec Ideal S10000x3 .f32) = x
  pointwise
  exact congrArg (fun k : Fin 10000 => x (ix2 k 2)) (Fin.ext (by show a.val % 50 * 50 + a.val / 50 = n.val; omega))

/-- The result at batch `b`, channel and sample `e`, start `d`, column `t`. -/
theorem result_apply (c : Dev nD) (b : Fin 4) (e : Fin 1400) (d t : Fin 50) :
    result m c (ix4 b e d t)
      = slice (gAt m c b) (row (⟨e.val % 28, by omega⟩ : Fin 28) (tab m c)) (ix5 0 (⟨e.val / 28, by omega⟩ : Fin 50) 0 d t) := by
  unfold result
  refine (shapeCast_apply (arr m c) shapeCasts_S4x50x28x50x50_S4x1400x50x50 (ix4 b e d t)
    (ix5 b (⟨e.val / 28, by omega⟩ : Fin 50) (⟨e.val % 28, by omega⟩ : Fin 28) d t) ?_).trans rfl
  rw [Shape.rowMajor_val_five, Shape.rowMajor_val_four]
  show (((b.val * 50 + e.val / 28) * 28 + e.val % 28) * 50 + d.val) * 50 + t.val = ((b.val * 1400 + e.val) * 50 + d.val) * 50 + t.val
  omega

end Cert.KernelIdeal.Body
-- ==== Proof.PreAt.lean ====
module

public import proofs.«01_k».proof.Proof.Gen.Pre_inputs_ok
public import Idealize.ShloMosaic.Lib.Pointwise
public import Idealize.ShloMosaic.Lib.ReduceAll

/-! What the precondition says of the inputs, entry by entry. -/

@[expose] public section

noncomputable section

namespace Cert.Pre_inputs_ok

open Idealize.ShloMosaic Idealize.ShloMosaic.TcCoe
open Cert.Pre_inputs_ok.Gen

/-- A scalar's shape has one index. -/
instance : Subsingleton S_.Idx := ⟨fun i j => funext fun a => a.elim0⟩

/-- Two bits whose `and` is one are both one. -/
theorem and_ones (u v : BitVec 1) (h : u &&& v = 1#1) : u = 1#1 ∧ v = 1#1 := by revert u v; decide

/-- A comparison for equality that is one had equal sides. -/
theorem eq_of_oeq {u v : EReal} (h : (FloatOps.cmpf .oeq : Ideal .f32 → Ideal .f32 → BitVec 1) u v = 1#1) : u = v := by
  by_contra c
  have : (FloatOps.cmpf .oeq : Ideal .f32 → Ideal .f32 → BitVec 1) u v = BitVec.ofBool (decide (u = v)) := rfl
  rw [this, decide_eq_false c] at h
  exact absurd h (by decide)

/-- A magnitude below positive infinity is a real number's. -/
theorem real_of_olt {u : EReal} (h : (FloatOps.cmpf .olt : Ideal .f32 → Ideal .f32 → BitVec 1) (max u (-u)) ⊤ = 1#1) : ∃ y : ℝ, u = (y : EReal) := by
  have e : (FloatOps.cmpf .olt : Ideal .f32 → Ideal .f32 → BitVec 1) (max u (-u)) ⊤ = BitVec.ofBool (decide (max u (-u) < ⊤)) := rfl
  rw [e] at h
  have hl : max u (-u) < ⊤ := by
    by_contra c
    rw [decide_eq_false c] at h
    exact absurd h (by decide)
  induction u using EReal.rec with
  | bot => simp at hl
  | top => simp at hl
  | coe y => exact ⟨y, rfl⟩

/-- The anchors by batch: row `a` of batch `b` is anchor `2500 * b + a`. -/
theorem rows_apply (x2 : FVec Ideal S10000x3 .f32) (b : Fin 4) (a : Fin 2500) (k : Fin 3) (n : Fin 10000) (hn : n.val = b.val * 2500 + a.val) :
    shapeCast S4x2500x3 x2 Facts.shapeCasts_S10000x3_S4x2500x3 (ix3 b a k) = x2 (ix2 n k) := by
  refine shapeCast_apply x2 _ (ix3 b a k) (ix2 n k) ?_
  rw [Shape.rowMajor_val_two, Shape.rowMajor_val_three]
  show n.val * 3 + k.val = (b.val * 2500 + a.val) * 3 + k.val
  omega

/-- The first batch's anchors laid over all batches. -/
theorem first_apply (x2 : FVec Ideal S10000x3 .f32) (b : Fin 4) (a : Fin 2500) (k : Fin 3) (n : Fin 10000) (hn : n.val = a.val) :
    broadcastInDim S4x2500x3 ![1, 2] Facts.bcast_S2500x3_S4x2500x3_1_2 (shapeCast S2500x3 (extractStridedSlice S1x2500x3 ![0, 0, 0]
      (shapeCast S4x2500x3 x2 Facts.shapeCasts_S10000x3_S4x2500x3) Facts.slices_S4x2500x3_S1x2500x3_0_0_0)
      Facts.shapeCasts_S1x2500x3_S2500x3) (ix3 b a k) = x2 (ix2 n k) := by
  refine (broadcastInDim_apply ![1, 2] _ _ (ix3 b a k) (ix2 a k) (fun e => by
    match e with
    | ⟨0, _⟩ => rfl
    | ⟨1, _⟩ => rfl)).trans ?_
  refine (shapeCast_apply _ _ (ix2 a k) (ix3 (0 : Fin 1) a k) (by
    rw [Shape.rowMajor_val_two, Shape.rowMajor_val_three]
    show (0 * 2500 + a.val) * 3 + k.val = a.val * 3 + k.val
    omega)).trans ?_
  refine (extractStridedSlice_apply _ _ _ (ix3 (0 : Fin 1) a k) (ix3 (0 : Fin 4) a k) (fun e => by
    match e with
    | ⟨0, _⟩ => rfl
    | ⟨1, _⟩ => exact (Nat.zero_add _).symm
    | ⟨2, _⟩ => exact (Nat.zero_add _).symm)).trans ?_
  exact rows_apply x2 0 a k n (by show n.val = 0 * 2500 + a.val; omega)

/-- Under the precondition `x` is real, an anchor's batch is its own, and the batches share their ends. -/
theorem decode (x0 : FVec Ideal S4x50x50 .f32) (x1 : IVec S4 32) (x2 : FVec Ideal S10000x3 .f32)
    (h : Cert.Pre_inputs_ok.fn (F := Ideal) x0 x1 x2 = fun _ => 1#1) :
    (∀ j, ∃ y : ℝ, x0 j = (y : EReal))
      ∧ (∀ (b : Fin 4) (a : Fin 2500) (n : Fin 10000), n.val = b.val * 2500 + a.val → x2 (ix2 n 0) = ((b.val : ℝ) : EReal))
      ∧ ∀ (b : Fin 4) (a : Fin 2500) (n n₀ : Fin 10000), n.val = b.val * 2500 + a.val → n₀.val = a.val →
        x2 (ix2 n 1) = x2 (ix2 n₀ 1) ∧ x2 (ix2 n 2) = x2 (ix2 n₀ 2) := by
  have h0 := congrFun h ix0
  unfold Cert.Pre_inputs_ok.fn at h0
  dsimp only at h0
  obtain ⟨h1, h2⟩ := and_ones _ _ h0
  obtain ⟨h1, h3⟩ := and_ones _ _ h1
  refine ⟨fun j => ?_, fun b a n hn => ?_, fun b a n n₀ hn h₀ => ?_⟩
  · have h := Host.reduce_andi_all _ _ _ _ _ h1 j
    have e : (broadcastInDim S4x50x50 ![] Facts.bcast_S_S4x50x50 (constant (F := Ideal) S_ FTy.f32 2139095040#32)) j = (⊤ : EReal) := by
      pointwise
      simp [Ideal.ofBits, Ideal.ieee]
    refine real_of_olt (u := x0 j) ?_
    rw [← e]
    exact h
  · have h := eq_of_oeq (Host.reduce_andi_all _ _ _ _ _ h3 (ix2 b a))
    have e : n = (⟨b.val * 2500 + a.val, by omega⟩ : Fin 10000) := Fin.ext hn
    have hs : ∀ b : Fin 4, (BitVec.ofNat 32 b.val).toInt = (b.val : Int) := by decide
    revert h
    pointwise
    intro h
    rw [e, h]
    show (((BitVec.ofNat 32 b.val).toInt : ℝ) : EReal) = _
    rw [hs]
    norm_num
  · have key : ∀ (k : Fin 2) (k' : Fin 3), k'.val = k.val + 1 → x2 (ix2 n k') = x2 (ix2 n₀ k') := fun k k' hk => by
      have r := Host.reduce_andi_all _ _ _ _ _ h2 (ix3 b a k)
      rw [extractStridedSlice_apply _ _ _ (ix3 b a k) (ix3 b a k') (fun e => by
        match e with
        | ⟨0, _⟩ => exact (Nat.zero_add _).symm
        | ⟨1, _⟩ => exact (Nat.zero_add _).symm
        | ⟨2, _⟩ => exact hk.trans (Nat.add_comm _ _))] at r
      exact (rows_apply x2 b a k' n hn).symm.trans ((eq_of_oeq r).trans (first_apply x2 b a k' n₀ h₀))
    exact ⟨key 0 1 rfl, key 1 2 rfl⟩

end Cert.Pre_inputs_ok
-- ==== Proof.Equation.lean ====
module

public import proofs.«01_k».proof.Proof.Neighbours
public import proofs.«01_k».proof.Proof.HostRows
public import proofs.«01_k».proof.Proof.PreAt

/-! The kernel's result is the reference's, entry by entry. -/

@[expose] public section

noncomputable section

namespace Cert.Equation

open Idealize.ShloMosaic Idealize.ShloMosaic.TcCoe
open Cert.KernelIdeal Cert.KernelIdeal.Gen Cert.KernelIdeal.Body Cert.Spec

variable (m : (ℓ : Loc nD τ sig) → Buf (Elt Ideal) ℓ)

/-- The features of batch `b` are those of its matrix. -/
theorem gAt_eq (c : Dev nD) (b : Fin 4) :
    gAt m c b = feats (batch (m ((c : Thread nD τ).loc main_arg0) : Vec Ideal S4x50x50 .f32) b) := by
  unfold gAt xBlk batch
  rw [V_main_arg0]

/-- Under the precondition every entry of the kernel's result is the reference's. -/
theorem entry (c : Dev nD) (x0 : Vec Ideal S4x50x50 .f32) (x1 : IVec S4 32) (x2 : Vec Ideal S10000x3 .f32)
    (e0 : m ((c : Thread nD τ).loc main_arg0) = x0) (e2 : m ((c : Thread nD τ).loc main_arg2) = x2)
    (h : Cert.Pre_inputs_ok.fn (F := Ideal) x0 x1 x2 = fun _ => 1#1) (b : Fin 4) (e : Fin 1400) (d t : Fin 50) :
    result m c (ix4 b e d t) = Cert.ReferenceIdeal.Read.val_main_v186 (F := Ideal) x0 x2 (ix4 b e d t) := by
  obtain ⟨hx, hown, hshare⟩ := Cert.Pre_inputs_ok.decode x0 x1 x2 h
  obtain ⟨a, ha⟩ : ∃ a : Fin 2500, a.val = d.val * 50 + t.val := ⟨⟨d.val * 50 + t.val, by omega⟩, rfl⟩
  obtain ⟨a', ha'⟩ : ∃ a : Fin 2500, a.val = t.val * 50 + d.val := ⟨⟨t.val * 50 + d.val, by omega⟩, rfl⟩
  obtain ⟨n, hn⟩ : ∃ n : Fin 10000, n.val = b.val * 2500 + t.val * 50 + d.val := ⟨⟨b.val * 2500 + t.val * 50 + d.val, by omega⟩, rfl⟩
  obtain ⟨n₀, hn₀⟩ : ∃ n : Fin 10000, n.val = t.val * 50 + d.val := ⟨⟨t.val * 50 + d.val, by omega⟩, rfl⟩
  have i1 : n.val = b.val * 2500 + a'.val := by rw [hn, ha', Nat.add_assoc]
  have i2 : n₀.val = a'.val := by rw [hn₀, ha']
  obtain ⟨s1, s2⟩ := hshare b a' n n₀ i1 i2
  have hb := hown b a' n i1
  have hst : stRow m c (ix2 0 a) = x2 (ix2 n 1) :=
    (stRow_apply m c d t a ha n₀ hn₀).trans ((congrFun e2 (ix2 n₀ 1)).trans s1.symm)
  have hen : enRow m c (ix2 0 a) = x2 (ix2 n 2) :=
    (enRow_apply m c d t a ha n₀ hn₀).trans ((congrFun e2 (ix2 n₀ 2)).trans s2.symm)
  have hg : gAt m c b = feats (batch x0 b) := (gAt_eq m c b).trans (congrArg (fun x : Vec Ideal S4x50x50 .f32 => feats (batch x b)) e0)
  obtain ⟨r, hr⟩ : ∃ r : Fin 50, r = ⟨e.val / 28, by omega⟩ := ⟨_, rfl⟩
  obtain ⟨q, hq⟩ : ∃ q : Fin 28, q = ⟨e.val % 28, by omega⟩ := ⟨_, rfl⟩
  rw [Cert.KernelIdeal.Body.result_apply, Cert.ReferenceIdeal.Read.result_apply x0 x2 b e d t n hn, hg, ← hr, ← hq,
    Cert.ReferenceIdeal.Read.joined_apply]
  unfold tab
  by_cases hlt : q.val < 12
  · rw [dif_pos hlt, slice_inner q hlt _ _ _ r d t a ha, Cert.ReferenceIdeal.Read.align_inner x0 x2 n b hb, hst, hen]
    refine congrArg (fun f : Fin (49 + 1) → EReal => lerp (m := 49) f _) (funext fun k => ?_)
    exact feats_inner _ r k _
  · rw [dif_neg hlt, slice_outer q hlt _ _ _ r d t a ha, Cert.ReferenceIdeal.Read.align_outer x0 x2 n b hb, hst, hen]
    refine congrArg (fun f : Fin (2 + 1) → EReal => lerp (m := 2) f _) (funext fun k => ?_)
    exact feats_means x0 hx b r k _

/-- Under the precondition the kernel's result is the reference's. -/
theorem agree (c : Dev nD) (x0 : Vec Ideal S4x50x50 .f32) (x1 : IVec S4 32) (x2 : Vec Ideal S10000x3 .f32)
    (e0 : m ((c : Thread nD τ).loc main_arg0) = x0) (e2 : m ((c : Thread nD τ).loc main_arg2) = x2)
    (h : Cert.Pre_inputs_ok.fn (F := Ideal) x0 x1 x2 = fun _ => 1#1) :
    result m c = Cert.ReferenceIdeal.Read.val_main_v186 (F := Ideal) x0 x2 := by
  funext j
  rw [eq_ix4 j]
  exact entry m c x0 x1 x2 e0 e2 h _ _ _ _

end Cert.Equation
-- ==== Proof.lean ====
module

public import proofs.«01_k».proof.Defs
public import proofs.«01_k».proof.Proof.KernelFrame
public import proofs.«01_k».proof.Proof.Gen.Pre_inputs_ok
public import proofs.«01_k».proof.Proof.Gen.ReferenceIdeal
public import proofs.«01_k».proof.Proof.Gen.ReferenceIdeal.Run
public import proofs.«01_k».proof.Proof.Gen.ReferenceIdeal.Read
public import proofs.«01_k».proof.Proof.Region
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The kernel's program ends without fault, with its arguments unchanged and its counters at
    zero. -/
theorem kernel_quiescent [Cert.Kernel.Facts] : Cert.quiescent_Kernel :=
  fun m ρ _ => Cert.Kernel.Body.frame m ρ

/-- The two named constants are the values that their words round. -/
theorem constants : Cert.preserves_Kernel_KernelIdeal :=
  ⟨IdealRules.named_const.statement Cert.KernelIdeal.κ "inv12" .f32 0x3DAAAAAB#32
      ((1 / 12 : ℝ) : EReal) rfl,
    IdealRules.named_const.statement Cert.KernelIdeal.κ "inv50" .f32 0x3CA3D70A#32
      ((1 / 50 : ℝ) : EReal) rfl⟩

/-- The plain reference ends without fault, with its arguments unchanged; it has no counter. -/
theorem reference_quiescent : Cert.quiescent_ReferenceIdeal := by
  intro m ρ _
  exact (θ_run _ _ _).mono (fun r h =>
    ⟨fun c => (h c).2, sem_eq_zero_of_no_sems (by decide) r.2⟩) (Cert.ReferenceIdeal.Value.run m ρ)

/-- Over the extended reals, on inputs the precondition admits, the kernel and the plain reference run to
    equal results, and leave their arguments unchanged. -/
theorem algebraic : Cert.algebraic_KernelIdeal_ReferenceIdeal_pre_inputs_ok := by
  intro m g m' g' hpre hagree
  refine ⟨fun c => Cert.KernelIdeal.Body.result m c, Cert.KernelIdeal.Body.run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v186_eq (F := Ideal) (StableHlo.launchContents m' c)).trans ?_
  exact (Cert.Equation.agree m c _ _ _ (hagree c).1.symm (hagree c).2.2.symm
    (by
      have e := hpre c
      rw [← (hagree c).1, ← (hagree c).2.2] at e
      exact e)).symm

/-- Everything stated in the statement. -/
theorem claim : Cert.Claim :=
  ⟨Cert.Kernel.Gen.facts, Cert.KernelIdeal.Gen.facts, Cert.ReferenceIdeal.Gen.facts,
    Cert.Pre_inputs_ok.Gen.facts, kernel_quiescent, fun m ρ _ => Cert.KernelIdeal.Body.frame m ρ,
    fun m ρ _ => Cert.KernelIdeal.Body.frame m ρ, reference_quiescent, fun m ρ _ => reference_quiescent m ρ trivial,
    constants, algebraic⟩

end Cert.Proof

end
